-- ==== Defs.lean ====
def Pre_Kernel [hPre_word_in_range : Cert.Pre_word_in_range.Facts] (m : (ℓ : Loc Cert.Kernel.nD Cert.Kernel.τ Cert.Kernel.sig) → Buf (Elt Bits) ℓ) : Prop :=
  ∀ c : Dev Cert.Kernel.nD,
    (Cert.Pre_word_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_word_in_range : Cert.Pre_word_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_word_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_logits_below_infinity [hPre_logits_below_infinity : Cert.Pre_logits_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_logits_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_infinity [hPre_logits_below_infinity : Cert.Pre_logits_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_logits_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_word_in_range : Cert.Pre_word_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_word_in_range : Cert.Pre_word_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_below_infinity [hKernelIdeal : Cert.KernelIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_below_infinity [hReferenceIdeal : Cert.ReferenceIdeal.Facts] [hPre_logits_below_infinity : Cert.Pre_logits_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_logits_below_infinity [hKernelIdeal : Cert.KernelIdeal.Facts] [hReferenceIdeal : Cert.ReferenceIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_word_in_range : Cert.Pre_word_in_range.Facts) (hPre_logits_below_infinity : Cert.Pre_logits_below_infinity.Facts),
    quiescent_Kernel (hKernel := hKernel) (hPre_word_in_range := hPre_word_in_range)
    ∧ quiescent_KernelIdeal (hKernelIdeal := hKernelIdeal) (hPre_word_in_range := hPre_word_in_range)
    ∧ quiescent_KernelIdeal_pre_logits_below_infinity (hKernelIdeal := hKernelIdeal) (hPre_logits_below_infinity := hPre_logits_below_infinity)
    ∧ quiescent_ReferenceIdeal (hReferenceIdeal := hReferenceIdeal)
    ∧ quiescent_ReferenceIdeal_pre_logits_below_infinity (hReferenceIdeal := hReferenceIdeal) (hPre_logits_below_infinity := hPre_logits_below_infinity)
    ∧ preserves_Kernel_KernelIdeal
    ∧ algebraic_KernelIdeal_ReferenceIdeal_pre_logits_below_infinity (hKernelIdeal := hKernelIdeal) (hReferenceIdeal := hReferenceIdeal) (hPre_logits_below_infinity := hPre_logits_below_infinity)
-- ==== Pre_logits_below_infinity.lean ====
abbrev S1 : Shape := ⟨1, ![1]⟩
abbrev S1000000x64 : Shape := ⟨2, ![1000000, 64]⟩
abbrev S1000000 : Shape := ⟨1, ![1000000]⟩
abbrev S_ : Shape := ⟨0, ![]⟩
abbrev S1x64 : Shape := ⟨2, ![1, 64]⟩
abbrev S1x1000000 : Shape := ⟨2, ![1, 1000000]⟩

class Facts : Prop where
  shapeCasts_S1_S_ : S1.ShapeCasts S_
  sliceFits_S1000000x64_S1x64 : S1000000x64.Slices (fun _ => 0) S1x64
  h_S_ : 0 < S_.numel
  shapeCasts_S1000000_S1x1000000 : S1000000.ShapeCasts S1x1000000
  bcast_S_S1 : S_.BroadcastsInDim S1 (![] : Fin 0 → Fin S1.rank)
  bcast_S_S1x1000000 : S_.BroadcastsInDim S1x1000000 (![] : Fin 0 → Fin S1x1000000.rank)
  dot_S1x64_S1000000x64_S1x1000000_1_1_0_0_n_n_wf : DotDims.WF S1x64 S1000000x64 S1x1000000 [1] [1] [0] [0] [] []

variable [Facts]

def dot_S1x64_S1000000x64_S1x1000000_1_1_0_0_n_n : DotDims S1x64 S1000000x64 S1x1000000 where
  lhsContracting := [1]
  rhsContracting := [1]
  lhsNonContracting := [0]
  rhsNonContracting := [0]
  lhsBatch := []
  rhsBatch := []
  wf := dot_S1x64_S1000000x64_S1x1000000_1_1_0_0_n_n_wf
def fn {F : FTy → Type} [FloatOps F] (main_arg0 : IVec S1 32) (main_arg1 : FVec F S1000000x64 .f32) (main_arg2 : FVec F S1000000x64 .f32) (main_arg3 : FVec F S1000000 .f32) : IVec S1 1 × IVec S1x1000000 1 :=
  let main_v0 : IVec S_ 32 := shapeCast S_ main_arg0 shapeCasts_S1_S_
  let main_c : IVec S_ 32 := constantI S_ 32 0#32
  let main_v1 : IVec S_ 1 := cmpi .slt main_v0 main_c
  let main_c_0 : IVec S_ 32 := constantI S_ 32 1000000#32
  let main_v2 : IVec S_ 32 := addi main_v0 main_c_0
  let main_v3 : IVec S_ 32 := select main_v1 main_v2 main_v0
  let main_c_1 : IVec S_ 32 := constantI S_ 32 0#32
  let main_v4 : FVec F S1x64 .f32 := (fun x i => Host.dynamicSlice S1x64 x (fun k => (i k (Shape.Idx.first h_S_)).toInt) sliceFits_S1000000x64_S1x64) main_arg1 (![main_v3, main_c_1] : Fin 2 → IVec S_ 32)
  let main_v5 : FVec F S1x1000000 .f32 := (fun l r => Host.dotGeneral dot_S1x64_S1000000x64_S1x1000000_1_1_0_0_n_n none l r) main_v4 main_arg2
  let main_v6 : FVec F S1x1000000 .f32 := shapeCast S1x1000000 main_arg3 shapeCasts_S1000000_S1x1000000
  let main_v7 : FVec F S1x1000000 .f32 := addf main_v5 main_v6
  let main_c_2 : IVec S_ 32 := constantI S_ 32 0#32
  let main_v8 : IVec S1 32 := broadcastInDim S1 ![] bcast_S_S1 main_c_2
  let main_v9 : IVec S1 1 := cmpi .sge main_arg0 main_v8
  let main_c_3 : IVec S_ 32 := constantI S_ 32 1000000#32
  let main_v10 : IVec S1 32 := broadcastInDim S1 ![] bcast_S_S1 main_c_3
  let main_v11 : IVec S1 1 := cmpi .slt main_arg0 main_v10
  let main_v12 : IVec S1 1 := andi main_v9 main_v11
  let main_cst : FVec F S_ .f32 := constant S_ .f32 0x7F800000#32
  let main_v13 : FVec F S1x1000000 .f32 := broadcastInDim S1x1000000 ![] bcast_S_S1x1000000 main_cst
  let main_v14 : IVec S1x1000000 1 := cmpf .olt main_v7 main_v13
  (main_v12, main_v14)
-- ==== Pre_word_in_range.lean ====
abbrev S1 : Shape := ⟨1, ![1]⟩
abbrev S1000000x64 : Shape := ⟨2, ![1000000, 64]⟩
abbrev S1000000 : Shape := ⟨1, ![1000000]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1000000x64 .f32) (main_arg2 : FVec F S1000000x64 .f32) (main_arg3 : FVec F S1000000 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1000000#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S1 : Shape := ⟨1, ![1]⟩
abbrev S1000000x64 : Shape := ⟨2, ![1000000, 64]⟩
abbrev S1000000 : Shape := ⟨1, ![1000000]⟩
abbrev S1x1000000 : Shape := ⟨2, ![1, 1000000]⟩
abbrev S8x64 : Shape := ⟨2, ![8, 64]⟩
abbrev S32768x64 : Shape := ⟨2, ![32768, 64]⟩
abbrev S1x32768 : Shape := ⟨2, ![1, 32768]⟩
abbrev S1x1015808 : Shape := ⟨2, ![1, 1015808]⟩
abbrev S1x1 : Shape := ⟨2, ![1, 1]⟩
abbrev S1x64 : Shape := ⟨2, ![1, 64]⟩

abbrev nBuf : Space → Nat
  | .hbm => 5
  | .vmem => 10
  | .smem => 1
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000, .f32⟩
  | .hbm, ⟨3, _⟩ => ⟨S1x1000000, .f32⟩
  | .hbm, ⟨4, _⟩ => ⟨S1x1000000, .f32⟩
  | .local _ .vmem, ⟨0, _⟩ => ⟨S8x64, .f32⟩
  | .local _ .vmem, ⟨1, _⟩ => ⟨S32768x64, .f32⟩
  | .local _ .vmem, ⟨2, _⟩ => ⟨S32768x64, .f32⟩
  | .local _ .vmem, ⟨3, _⟩ => ⟨S1x32768, .f32⟩
  | .local _ .vmem, ⟨4, _⟩ => ⟨S1x32768, .f32⟩
  | .local _ .vmem, ⟨5, _⟩ => ⟨S1x32768, .f32⟩
  | .local _ .vmem, ⟨6, _⟩ => ⟨S1x32768, .f32⟩
  | .local _ .vmem, ⟨7, _⟩ => ⟨S1x1015808, .f32⟩
  | .local _ .vmem, ⟨8, _⟩ => ⟨S1x1, .f32⟩
  | .local _ .vmem, ⟨9, _⟩ => ⟨S1x1, .f32⟩
  | .local _ .smem, ⟨0, _⟩ => ⟨S1, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![62], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c31_i32 : BitVec 32 := 31#32
  let v3 : BitVec 1 := Scalar.cmpi .slt arg0 c31_i32
  let v4 : BitVec 32 := Scalar.extui v3
  let c0_i32_1 : BitVec 32 := 0#32
  let v5 : BitVec 1 := Scalar.cmpi .ne v4 c0_i32_1
  v5

def k0_off1 (v9 : BitVec 32) : Fin 2 → Nat :=
  let c8_i32 : BitVec 32 := 8#32
  let c0_i32_4 : BitVec 32 := 0#32
  let v10 : BitVec 1 := Scalar.cmpi .eq c8_i32 c0_i32_4
  let c1_i32 : BitVec 32 := 1#32
  let v11 : BitVec 32 := Scalar.select v10 c1_i32 c8_i32
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : Index := Scalar.indexCast v19
  let c0_8 : Index := 0#32
  ![v20.toNat, 0]

def k0_chk1 (i : grid0.Coords) (v9 : BitVec 32) : Prop :=
  (∀ (k0_h2 : k0_cond2 i = 1#1), ∀ a, (k0_off1 v9) a + S1x64.size a ≤ S8x64.size a)
theorem k0_off1_inb : ∀ (i : grid0.Coords) (v9 : BitVec 32) (k0_hw1 : k0_chk1 i v9), ∀ (k0_h2 : k0_cond2 i = 1#1), ∀ a, (k0_off1 v9) a + S1x64.size a ≤ S8x64.size a := fun i v9 k0_hw1 k0_h2 => k0_hw1 k0_h2

def k0_off2 (i : grid0.Coords) : Fin 2 → Nat :=
  let c0_13 : Index := 0#32
  let arg0 : BitVec 32 := BitVec.ofNat 32 (i 0).val
  let c32768_i32 : BitVec 32 := 32768#32
  let v27 : BitVec 32 := Scalar.muli arg0 c32768_i32
  let v28 : Index := Scalar.indexCast v27
  ![0, v28.toNat]
def k0_cond3 (i : grid0.Coords) : BitVec 1 :=
  let arg0 : BitVec 32 := BitVec.ofNat 32 (i 0).val
  let c31_i32_2 : BitVec 32 := 31#32
  let v6 : BitVec 1 := Scalar.cmpi .sge arg0 c31_i32_2
  let v7 : BitVec 32 := Scalar.extui v6
  let c0_i32_3 : BitVec 32 := 0#32
  let v8 : BitVec 1 := Scalar.cmpi .ne v7 c0_i32_3
  v8

def k0_off3 (i : grid0.Coords) : Fin 2 → Nat :=
  let c0_8 : Index := 0#32
  let arg0 : BitVec 32 := BitVec.ofNat 32 (i 0).val
  let c31_i32_4 : BitVec 32 := 31#32
  let v9 : BitVec 32 := Scalar.subi arg0 c31_i32_4
  let c32768_i32 : BitVec 32 := 32768#32
  let v14 : BitVec 32 := Scalar.muli v9 c32768_i32
  let v15 : Index := Scalar.indexCast v14
  ![0, v15.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c30_i32 : BitVec 32 := 30#32
  let v0 : BitVec 32 := Scalar.minsi arg0 c30_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c30_i32 : BitVec 32 := 30#32
  let v0 : BitVec 32 := Scalar.minsi arg0 c30_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c31_i32 : BitVec 32 := 31#32
  let v0 : BitVec 1 := Scalar.cmpi .slt arg0 c31_i32
  let c31_i32_0 : BitVec 32 := 31#32
  let v1 : BitVec 32 := Scalar.subi arg0 c31_i32_0
  let c0_i32 : BitVec 32 := 0#32
  let v2 : BitVec 32 := Scalar.select v0 c0_i32 v1
  let c0_i32_1 : BitVec 32 := 0#32
  let c0_i32_2 : BitVec 32 := 0#32
  ![c0_i32_1.toNat, v2.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32768x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1 : Shape := ⟨1, ![1]⟩
abbrev S1000000x64 : Shape := ⟨2, ![1000000, 64]⟩
abbrev S1000000 : Shape := ⟨1, ![1000000]⟩
abbrev S_ : Shape := ⟨0, ![]⟩
abbrev S1x1 : Shape := ⟨2, ![1, 1]⟩
abbrev S1x64 : Shape := ⟨2, ![1, 64]⟩
abbrev S64x1000000 : Shape := ⟨2, ![64, 1000000]⟩
abbrev S1x1000000 : Shape := ⟨2, ![1, 1000000]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S1000000x64, .f32⟩
  | .hbm, ⟨2, _⟩ => ⟨S1000000x64, .f32⟩
  | .hbm, ⟨3, _⟩ => ⟨S1000000, .f32⟩
  | .hbm, ⟨4, _⟩ => ⟨S_, .i32⟩
  | .hbm, ⟨5, _⟩ => ⟨S1, .i32⟩
  | .hbm, ⟨6, _⟩ => ⟨S1, .i1⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S1, .i32⟩
  | .hbm, ⟨11, _⟩ => ⟨S1x1, .i32⟩
  | .hbm, ⟨12, _⟩ => ⟨S1, .i32⟩
  | .hbm, ⟨13, _⟩ => ⟨S_, .i32⟩
  | .hbm, ⟨14, _⟩ => ⟨S1x1, .i32⟩
  | .hbm, ⟨15, _⟩ => ⟨S1x1, .i1⟩
  | .hbm, ⟨16, _⟩ => ⟨S1x1, .i32⟩
  | .hbm, ⟨17, _⟩ => ⟨S1x1, .i1⟩
  | .hbm, ⟨18, _⟩ => ⟨S1x1, .i1⟩
  | .hbm, ⟨19, _⟩ => ⟨S_, .i1⟩
  | .hbm, ⟨20, _⟩ => ⟨S1, .i1⟩
  | .hbm, ⟨21, _⟩ => ⟨S1x64, .f32⟩
  | .hbm, ⟨22, _⟩ => ⟨S1x64, .i1⟩
  | .hbm, ⟨23, _⟩ => ⟨S_, .f32⟩
  | .hbm, ⟨24, _⟩ => ⟨S1x64, .f32⟩
  | .hbm, ⟨25, _⟩ => ⟨S1x64, .f32⟩
  | .hbm, ⟨26, _⟩ => ⟨S64x1000000, .f32⟩
  | .hbm, ⟨27, _⟩ => ⟨S1x1000000, .f32⟩
  | .hbm, ⟨28, _⟩ => ⟨S1x1000000, .f32⟩
  | .hbm, ⟨29, _⟩ => ⟨S1x1000000, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S1x1000000, .f32⟩
  | .hbm, ⟨37, _⟩ => ⟨S1x1000000, .f32⟩
  | .hbm, ⟨38, _⟩ => ⟨S1x1000000, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S1x1, .f32⟩
  | .hbm, ⟨43, _⟩ => ⟨S1x1000000, .f32⟩
  | .hbm, ⟨44, _⟩ => ⟨S1x1000000, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_cst : Ref sig .tc := ⟨.hbm, 30, rfl⟩
abbrev main_call1_v0 : Ref sig .tc := ⟨.hbm, 31, rfl⟩
abbrev main_call1_cst_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_v5 : Ref sig .tc := ⟨.hbm, 44, rfl⟩

abbrev nD : Nat := 1
abbrev τ : Topo := Topo.v7x

variable {F : FTy → Type} [FloatOps F]
-- ==== Proof.KernelIdealWords.lean ====
/-
  The word the kernel reads, and what its index arithmetic makes of it: for a word below 2^31 the row offset inside
  the staged block of eight rows is the word modulo eight, and the block's number is the word divided by eight.
-/
module

public import proofs.«01_k».proof.Proof.Gen.KernelIdeal
public import Idealize.ShloMosaic.Lib.Routing.Words

@[expose] public section

namespace Cert.KernelIdeal.Hand

open Cert.KernelIdeal Cert.KernelIdeal.Gen Idealize.ShloMosaic

/-- The floor-mod chain at a remainder that is already in range. -/
theorem floorMod_small : ∀ r : Fin 8,
    (Scalar.select (Scalar.andi (Scalar.xori (Scalar.cmpi .slt (BitVec.ofNat 32 r.val) 0#32) (Scalar.cmpi .slt 8#32 0#32))
      (Scalar.cmpi .ne (BitVec.ofNat 32 r.val) 0#32)) (Scalar.addi (BitVec.ofNat 32 r.val) 8#32) (BitVec.ofNat 32 r.val)).toNat = r.val := by
  decide

/-- The row offset of a word below 2^31: the word modulo eight. -/
theorem off1_eq (n : ℕ) (hn : n < 2 ^ 31) : k0_off1 (BitVec.ofNat 32 n) = ![n % 8, 0] := by
  have hr : Scalar.remsi (BitVec.ofNat 32 n) (Scalar.select (Scalar.cmpi .eq 8#32 0#32) 1#32 8#32) = BitVec.ofNat 32 (n % 8) := by
    rw [show Scalar.select (Scalar.cmpi .eq 8#32 0#32) 1#32 8#32 = BitVec.ofNat 32 8 from by decide]
    exact Routing.remsi_word .scalar hn (by norm_num) (by norm_num)
  have h := floorMod_small ⟨n % 8, Nat.mod_lt _ (by norm_num)⟩
  unfold k0_off1
  simp only [hr]
  rw [show Scalar.select (Scalar.cmpi .eq 8#32 0#32) 1#32 8#32 = 8#32 from by decide]
  exact congrArg (fun k => ![k, 0]) h

/-- So the row lies in the staged block. -/
theorem chk1 (i : grid0.Coords) (n : ℕ) (hn : n < 2 ^ 31) : k0_chk1 i (BitVec.ofNat 32 n) := by
  intro _ a
  rw [off1_eq n hn]
  have := Nat.mod_lt n (show 0 < 8 by norm_num)
  fin_cases a
  · show n % 8 + 1 ≤ 8; omega
  · show 0 + 64 ≤ 64; omega

/-- The floor-division chain at a quotient and a remainder: nothing is subtracted from a quotient of words that are not negative. -/
theorem floorDiv_corr (q : BitVec 32) : ∀ (s : Fin 2) (r : Fin 8), (s.val = 0 → r.val = 0) →
    Scalar.select (Scalar.andi (Scalar.cmpi .ne (Scalar.subi (Scalar.extui (BitVec.ofNat 1 s.val)) (Scalar.extui 0#1))
        (Scalar.subi (Scalar.extui (Scalar.cmpi .sgt 8#32 0#32)) (Scalar.extui (Scalar.cmpi .slt 8#32 0#32))))
      (Scalar.cmpi .ne (BitVec.ofNat 32 r.val) 0#32)) (Scalar.subi q 1#32) q = q := by
  intro s r h
  have hc : ∀ (s : Fin 2) (r : Fin 8), (s.val = 0 → r.val = 0) →
      (Scalar.andi (Scalar.cmpi .ne (Scalar.subi (Scalar.extui (BitVec.ofNat 1 s.val)) (Scalar.extui 0#1))
        (Scalar.subi (Scalar.extui (Scalar.cmpi .sgt 8#32 0#32)) (Scalar.extui (Scalar.cmpi .slt 8#32 0#32))))
      (Scalar.cmpi .ne (BitVec.ofNat 32 r.val) 0#32)) = 0#1 := by decide
  rw [hc s r h]; rfl

/-- A word below 2^31 is positive exactly when it is not zero, and never negative. -/
theorem sgt_zero (n : ℕ) (hn : n < 2 ^ 31) : Scalar.cmpi .sgt (BitVec.ofNat 32 n) 0#32 = BitVec.ofNat 1 (if n = 0 then 0 else 1) := by
  have hi : (BitVec.ofNat 32 n).toInt = n := by
    rw [BitVec.toInt_eq_toNat_of_lt (by rw [BitVec.toNat_ofNat]; omega), BitVec.toNat_ofNat]; omega
  show BitVec.ofBool ((0#32).slt (BitVec.ofNat 32 n)) = _
  rw [BitVec.slt, hi]
  split
  · subst_vars; rfl
  · rw [show decide ((0#32).toInt < (n : ℤ)) = true from decide_eq_true (by rw [show (0#32).toInt = 0 from rfl]; omega)]; rfl

theorem slt_zero (n : ℕ) (hn : n < 2 ^ 31) : Scalar.cmpi .slt (BitVec.ofNat 32 n) 0#32 = 0#1 := by
  have hi : (BitVec.ofNat 32 n).toInt = n := by
    rw [BitVec.toInt_eq_toNat_of_lt (by rw [BitVec.toNat_ofNat]; omega), BitVec.toNat_ofNat]; omega
  show BitVec.ofBool ((BitVec.ofNat 32 n).slt 0#32) = _
  rw [BitVec.slt, hi, show decide ((n : ℤ) < (0#32).toInt) = false from decide_eq_false (by rw [show (0#32).toInt = 0 from rfl]; omega)]; rfl

section
variable {F : FTy → Type}

/-- The word the index map reads out of the table. -/
def word (pf : pre0.Contents (Elt F)) : BitVec 32 := pf.at 0 (Rect.unit (s := S1) ![0] S1.size inb_S1_S1_0) numel1_S1

/-- The block index of a word below 2^31: the word divided by eight. -/
theorem trans0_eq (pf : pre0.Contents (Elt F)) (i : grid0.Coords) (n : ℕ) (hn : n < 2 ^ 31) (hw : word pf = BitVec.ofNat 32 n) :
    cc0_transform_0 inb_S1_S1_0 numel1_S1 pf i = ![n / 8, 0] := by
  have hr : Scalar.remsi (BitVec.ofNat 32 n) 8#32 = BitVec.ofNat 32 (n % 8) := Routing.remsi_word .scalar hn (by norm_num) (by norm_num)
  have hd : Scalar.divsi (BitVec.ofNat 32 n) 8#32 = BitVec.ofNat 32 (n / 8) := Routing.divsi_word .scalar hn (by norm_num) (by norm_num)
  have hw' : pf.at 0 (Rect.unit (s := S1) ![0] S1.size inb_S1_S1_0) numel1_S1 = BitVec.ofNat 32 n := hw
  have h := floorDiv_corr (BitVec.ofNat 32 (n / 8)) ⟨if n = 0 then 0 else 1, by split <;> omega⟩ ⟨n % 8, Nat.mod_lt _ (by norm_num)⟩
    (by intro h; by_cases h0 : n = 0
        · subst h0; rfl
        · simp [h0] at h)
  unfold cc0_transform_0
  simp only [hw', hr, hd, sgt_zero n hn, slt_zero n hn]
  funext a
  refine Eq.trans (congrFun (congrArg (fun k : BitVec 32 => ![k.toNat, (0#32).toNat]) h) a) ?_
  rw [BitVec.toNat_ofNat, Nat.mod_eq_of_lt (show n / 8 < 2 ^ 32 by omega)]
  fin_cases a <;> rfl

/-- A word that names a row of the table is admissible. -/
theorem ok_of_lt (pf : pre0.Contents (Elt F)) (n : ℕ) (hn : n < 1000000) (hw : word pf = BitVec.ofNat 32 n) : ok0 pf := by
  intro i
  refine ⟨?_, .inl rfl⟩
  intro a
  rw [trans0_eq pf i n (by omega) hw]
  fin_cases a
  · show (n / 8 + 1) * 8 ≤ 1000000; omega
  · show (0 + 1) * 64 ≤ 64; omega

end

/-! ## The control of a grid point -/

theorem cond1_iff : ∀ i : grid0.Coords,
    (Scalar.cmpi .ne (Scalar.extui (Scalar.cmpi .eq (BitVec.ofNat 32 (i 0).val) 0#32)) 0#32 = 1#1) ↔ (i 0).val = 0 := by decide +kernel
theorem cond2_iff : ∀ i : grid0.Coords, (k0_cond2 i = 1#1) ↔ (i 0).val < 31 := by decide +kernel
theorem cond3_iff : ∀ i : grid0.Coords, (k0_cond3 i = 1#1) ↔ 31 ≤ (i 0).val := by decide +kernel
theorem off3_eq : ∀ i : grid0.Coords, 31 ≤ (i 0).val → k0_off3 i = ![0, 32768 * ((i 0).val - 31)] := by decide +kernel
theorem coords_val : ∀ t : Fin grid0.N, (grid0.coords t 0).val = t.val := by decide +kernel

end Cert.KernelIdeal.Hand
-- ==== Proof.KernelIdealRun.lean ====
/-
  The kernel's body run at a grid point, for any float arithmetic: a point of the first pass (the block's logits put into
  the logits buffer, the running maximum and the running sum moved on) and a point of the second (a block of logits read
  back, the maximum and the logarithm of the sum subtracted, the block stored).
-/
module

public import proofs.«01_k».proof.Proof.Gen.KernelIdeal.Launch
public import proofs.«01_k».proof.Proof.Gen.KernelIdeal.Skeleton
public import proofs.«01_k».proof.Proof.KernelIdealWords
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The prefetched table as the body is handed it, and the two kinds of buffers it holds on core `c`. -/
abbrev tbM : Memref sig .tc .smem S1 .i32 := Memref.whole main_arg0
abbrev tbPt (c : Dev nD) (f : Buf (Elt F) (tbM.view.loc (c : Thread nD τ))) : sProp 𝕄 :=
  tbM.view.loc (c : Thread nD τ) ↦{fullShare.right} f

/-- The word the body reads out of the table. -/
abbrev wordOf (c : Dev nD) (f : Buf (Elt F) (tbM.view.loc (c : Thread nD τ))) : BitVec 32 :=
  tbM.view.readAt (Elt F) (Rect.unit (s := S1) ![0] S1.size inb_S1_S1_0).toLoadRect f (Shape.Idx.first (by decide))

/-! ## What a point makes of the buffers -/

/-- Row `n % 8` of the staged block of eight rows. -/
def row (n : ℕ) (X : S8x64.Idx → Elt F .f32) : S1x64.Idx → Elt F .f32 := fun j => X (ix2 ⟨n % 8, Nat.mod_lt _ (by norm_num)⟩ (j 1))

/-- The logits buffer with block `t` overwritten. -/
def zNext (t : ℕ) (L : S1x32768.Idx → Elt F .f32) (Z : S1x1015808.Idx → Elt F .f32) : S1x1015808.Idx → Elt F .f32 := fun p =>
  if h : 32768 * t ≤ (p 1).val ∧ (p 1).val < 32768 * t + 32768 then L (ix2 0 ⟨(p 1).val - 32768 * t, by omega⟩) else Z p

/-- Block `t` of the logits buffer. -/
def zBlock (t : ℕ) (ht : t < 31) (Z : S1x1015808.Idx → Elt F .f32) : S1x32768.Idx → Elt F .f32 := fun j =>
  Z (ix2 0 ⟨32768 * t + (j 1).val, by have : (j 1).val < 32768 := (j 1).isLt; omega⟩)

/-- The running maximum after the block. -/
def mNext (t n : ℕ) (X2 : S8x64.Idx → Elt F .f32) (X3 : S32768x64.Idx → Elt F .f32) (X4 : S1x32768.Idx → Elt F .f32)
    (M : S1x1.Idx → Elt F .f32) : S1x1.Idx → Elt F .f32 :=
  k0_pay4 (k0_pay9 (BitVec.ofNat 32 t) (row n X2) X3 X4 M)

/-- The running sum after the block. -/
def sNext (t n : ℕ) (X2 : S8x64.Idx → Elt F .f32) (X3 : S32768x64.Idx → Elt F .f32) (X4 : S1x32768.Idx → Elt F .f32)
    (M S : S1x1.Idx → Elt F .f32) : S1x1.Idx → Elt F .f32 :=
  k0_pay3 (k0_pay8 (BitVec.ofNat 32 t) (row n X2) X3 X4) (k0_pay9 (BitVec.ofNat 32 t) (row n X2) X3 X4 M) S M

theorem mNext_of {t n : ℕ} {X2 : S8x64.Idx → Elt F .f32} {X3 X3' : S32768x64.Idx → Elt F .f32} {X4 X4' : S1x32768.Idx → Elt F .f32}
    {M M' : S1x1.Idx → Elt F .f32} {R : S1x64.Idx → Elt F .f32} (h2 : R = row n X2) (h3 : X3' = X3) (h4 : X4' = X4) (hM : M' = M) :
    k0_pay4 (k0_pay9 (BitVec.ofNat 32 t) R X3' X4' M') = mNext t n X2 X3 X4 M := by
  subst h2 h3 h4 hM; rfl

theorem sNext_of {t n : ℕ} {X2 : S8x64.Idx → Elt F .f32} {X3 X3' : S32768x64.Idx → Elt F .f32} {X4 X4' : S1x32768.Idx → Elt F .f32}
    {M M' M'' S S' : S1x1.Idx → Elt F .f32} {R : S1x64.Idx → Elt F .f32} (h2 : R = row n X2) (h3 : X3' = X3) (h4 : X4' = X4)
    (hM : M' = M) (hS : S' = S) (hM' : M'' = M) :
    k0_pay3 (k0_pay8 (BitVec.ofNat 32 t) R X3' X4') (k0_pay9 (BitVec.ofNat 32 t) R X3' X4' M') S' M'' = sNext t n X2 X3 X4 M S := by
  subst h2 h3 h4 hM hS hM'; rfl

theorem zNext_of {t n : ℕ} {X2 : S8x64.Idx → Elt F .f32} {X3 X3' : S32768x64.Idx → Elt F .f32} {X4 X4' : S1x32768.Idx → Elt F .f32}
    {Z : S1x1015808.Idx → Elt F .f32} {R : S1x64.Idx → Elt F .f32} (h2 : R = row n X2) (h3 : X3' = X3) (h4 : X4' = X4) :
    zNext t (k0_pay7 R X3' X4') Z = zNext t (k0_pay7 (row n X2) X3 X4) Z := by
  subst h2 h3 h4; rfl

/-! ## Loads and stores read back -/

section
variable {κ : Kind} {sp : Space}

omit [FloatOps F] [∀ e, Nonempty (Elt F e)] in
theorem ld_row (v : View sig κ sp S8x64 .f32) (f : v.ty.Contents (Elt F)) (n : ℕ) (w : BitVec 32)
    (h : ∀ a, (k0_off1 w) a + S1x64.size a ≤ S8x64.size a) (hn : n < 2 ^ 31) (hw : w = BitVec.ofNat 32 n) :
    v.readAt (Elt F) (Rect.unit (s := S8x64) (k0_off1 w) S1x64.size h).toLoadRect f = row n (v.read (Elt F) f) := by
  subst hw
  funext j
  rw [View.readAt_apply]
  unfold row
  refine congrArg _ (funext fun a => Fin.ext ?_)
  refine Eq.trans (congrArg (· + 1 * (j a).val) (congrFun (off1_eq n hn) a)) ?_
  have h0 : (j 0).val < 1 := (j 0).isLt
  fin_cases a
  · show n % 8 + 1 * (j 0).val = n % 8; omega
  · show 0 + 1 * (j 1).val = (j 1).val; omega

omit [FloatOps F] [∀ e, Nonempty (Elt F e)] in
/-- A whole store into a one-element buffer reads back as what was stored. -/
theorem read_one (v : View sig κ sp S1x1 .f32) (f : v.ty.Contents (Elt F)) (h) (w : S1x1.Idx → Elt F .f32) (L : List (View.Piece (Elt F) S1x1 .f32)) :
    v.read (Elt F) (v.writes (Elt F) f (⟨Rect.unit (s := S1x1) ![0, 0] ![1, 1] h, w⟩ :: L)) = w := by
  funext y
  refine View.read_writes_cons_hit_of_coords v f (Rect.unit (s := S1x1) ![0, 0] ![1, 1] h) w L y y fun a => ?_
  fin_cases a
  · show (y 0).val = 0 + 1 * (y 0).val; omega
  · show (y 1).val = 0 + 1 * (y 1).val; omega

omit [FloatOps F] [∀ e, Nonempty (Elt F e)] in
/-- The same of the output block. -/
theorem read_out (v : View sig κ sp S1x32768 .f32) (f : v.ty.Contents (Elt F)) (h) (w : S1x32768.Idx → Elt F .f32) (L : List (View.Piece (Elt F) S1x32768 .f32)) :
    v.read (Elt F) (v.writes (Elt F) f (⟨Rect.unit (s := S1x32768) ![0, 0] ![1, 32768] h, w⟩ :: L)) = w := by
  funext y
  refine View.read_writes_cons_hit_of_coords v f (Rect.unit (s := S1x32768) ![0, 0] ![1, 32768] h) w L y y fun a => ?_
  fin_cases a
  · show (y 0).val = 0 + 1 * (y 0).val; omega
  · show (y 1).val = 0 + 1 * (y 1).val; omega

omit [FloatOps F] [∀ e, Nonempty (Elt F e)] in
/-- A block stored into the logits buffer. -/
theorem read_zNext (v : View sig κ sp S1x1015808 .f32) (f : v.ty.Contents (Elt F)) (i : grid0.Coords) (h) (w : S1x32768.Idx → Elt F .f32) :
    v.read (Elt F) (v.writes (Elt F) f [⟨Rect.unit (s := S1x1015808) (k0_off2 i) S1x32768.size h, w⟩]) = zNext (i 0).val w (v.read (Elt F) f) := by
  funext y
  have y0 : (y 0).val < 1 := (y 0).isLt
  unfold zNext
  split
  · rename_i hy
    refine View.read_writes_cons_hit_of_coords v f (Rect.unit (s := S1x1015808) (k0_off2 i) S1x32768.size h) w []
      (ix2 0 ⟨(y 1).val - 32768 * (i 0).val, by omega⟩) y fun a => ?_
    refine Eq.trans ?_ (congrArg (· + _) (congrFun (k0_off2_eq i) a).symm)
    fin_cases a
    · show (y 0).val = 0 + 1 * 0; omega
    · show (y 1).val = 32768 * (i 0).val + 1 * ((y 1).val - 32768 * (i 0).val); omega
  · rename_i hy
    rw [View.read_writes_cons_miss_of_axis v f ⟨Rect.unit (s := S1x1015808) (k0_off2 i) S1x32768.size h, w⟩ [] y 1 (32768 * (i 0).val) 32768
      (by show k0_off2 i 1 = _; rw [k0_off2_eq i]; rfl) rfl rfl (by omega)]
    rfl

omit [FloatOps F] [∀ e, Nonempty (Elt F e)] in
/-- A block loaded from the logits buffer. -/
theorem ld_zBlock (v : View sig κ sp S1x1015808 .f32) (f : v.ty.Contents (Elt F)) (i : grid0.Coords) (h) (hi : 31 ≤ (i 0).val) (ht : (i 0).val - 31 < 31) :
    v.readAt (Elt F) (Rect.unit (s := S1x1015808) (k0_off3 i) S1x32768.size h).toLoadRect f = zBlock ((i 0).val - 31) ht (v.read (Elt F) f) := by
  funext j
  rw [View.readAt_apply]
  unfold zBlock
  refine congrArg _ (funext fun a => Fin.ext ?_)
  refine Eq.trans (congrArg (· + 1 * (j a).val) (congrFun (off3_eq i hi) a)) ?_
  have h0 : (j 0).val < 1 := (j 0).isLt
  fin_cases a
  · show 0 + 1 * (j 0).val = 0; omega
  · show 32768 * ((i 0).val - 31) + 1 * (j 1).val = 32768 * ((i 0).val - 31) + (j 1).val; omega

end

/-! ## The runs -/

section
variable (c : Dev nD) (i : grid0.Coords)
  (arg2 : Memref sig .tc .vmem S8x64 .f32) (harg2 : arg2.IsWhole)
  (arg3 : Memref sig .tc .vmem S32768x64 .f32) (harg3 : arg3.IsWhole)
  (arg4 : Memref sig .tc .vmem S1x32768 .f32) (harg4 : arg4.IsWhole)
  (arg5 : Memref sig .tc .vmem S1x32768 .f32) (harg5 : arg5.IsWhole)
  (arg6 : Memref sig .tc .vmem S1x1015808 .f32) (harg6 : arg6.IsWhole)
  (arg7 : Memref sig .tc .vmem S1x1 .f32) (harg7 : arg7.IsWhole)
  (arg8 : Memref sig .tc .vmem S1x1 .f32) (harg8 : arg8.IsWhole)

/-- A point of the first pass after the first one. -/
theorem run_mid (T : Buf (Elt F) (tbM.view.loc (c : Thread nD τ)))
    (X2 : S8x64.Idx → Elt F .f32) (X3 : S32768x64.Idx → Elt F .f32) (X4 : S1x32768.Idx → Elt F .f32)
    (Z : S1x1015808.Idx → Elt F .f32) (M S : S1x1.Idx → Elt F .f32)
    (n : ℕ) (hn : n < 2 ^ 31) (hT : wordOf c T = BitVec.ofNat 32 n)
    (h0 : (i 0).val ≠ 0) (h1 : (i 0).val < 31) (K : PUnit → sProp 𝕄) :
    iprop(tbPt c T ∗ owns (c : Thread nD τ) arg2 fullShare X2 ∗ owns (c : Thread nD τ) arg3 fullShare X3
        ∗ owns (c : Thread nD τ) arg4 fullShare X4 ∗ owns (c : Thread nD τ) arg6 fullShare Z
        ∗ owns (c : Thread nD τ) arg7 fullShare M ∗ owns (c : Thread nD τ) arg8 fullShare S
        ∗ (iprop(tbPt c T ∗ owns (c : Thread nD τ) arg2 fullShare X2 ∗ owns (c : Thread nD τ) arg3 fullShare X3
            ∗ owns (c : Thread nD τ) arg4 fullShare X4
            ∗ owns (c : Thread nD τ) arg6 fullShare (zNext (i 0).val (k0_pay7 (row n X2) X3 X4) Z)
            ∗ owns (c : Thread nD τ) arg7 fullShare (mNext (i 0).val n X2 X3 X4 M)
            ∗ owns (c : Thread nD τ) arg8 fullShare (sNext (i 0).val n X2 X3 X4 M S)) -∗ K ⟨⟩))
      ⊢ wp frame (wpE (defs₀ (F := F)) Variants.none c none) Set.univ
          (cc0__body i tbM (Memref.isWhole_whole _) arg2 harg2 arg3 harg3 arg4 harg4 arg5 harg5 arg6 harg6 arg7 harg7 arg8 harg8) K := by
  have c1 : ¬ (Scalar.cmpi .ne (Scalar.extui (Scalar.cmpi .eq (BitVec.ofNat 32 (i 0).val) 0#32)) 0#32 = 1#1) := fun h =>
    h0 ((cond1_iff i).mp h)
  have c2 := (cond2_iff i).mpr h1
  have c3 : ¬ k0_cond3 i = 1#1 := fun h => absurd ((cond3_iff i).mp h) (by omega)
  have hchk : k0_chk1 i (wordOf c T) := by rw [hT]; exact chk1 i n hn
  simp only [cc0__body_eq_skeleton]; unfold cc0__body_skel
  simp only [k0_part1_eq_skeleton]; unfold k0_part1_skel
  unfold owns
  iintro ⟨HT, ⟨%f2, %h2, H2⟩, ⟨%f3, %h3, H3⟩, ⟨%f4, %h4, H4⟩, ⟨%f6, %h6, H6⟩, ⟨%f7, %h7, H7⟩, ⟨%f8, %h8, H8⟩, Hk⟩
  subst h2 h3 h4 h6 h7 h8
  sl_exec
  sl_step
  iapply Hk
  isplitl [HT]; · iexact HT
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr; swap; · iexact H6
    ipureintro
    refine (read_zNext arg6.view f6 i _ _).trans ?_
    exact zNext_of (ld_row arg2.view f2 n _ _ hn hT) (View.readAt_full ..) (View.readAt_full ..)
  isplitl [H7]
  · iexists _; isplitr; swap; · iexact H7
    ipureintro
    rw [read_one]
    exact mNext_of (ld_row arg2.view f2 n _ _ hn hT) (View.readAt_full ..) (View.readAt_full ..) (View.readAt_full ..)
  · iexists _; isplitr; swap; · iexact H8
    ipureintro
    rw [read_one]
    exact sNext_of (ld_row arg2.view f2 n _ _ hn hT) (View.readAt_full ..) (View.readAt_full ..) (View.readAt_full ..)
      (View.readAt_full ..) (View.readAt_full ..)

/-- The first point: the running maximum and sum are set before the block is folded in. -/
theorem run_first (T : Buf (Elt F) (tbM.view.loc (c : Thread nD τ)))
    (X2 : S8x64.Idx → Elt F .f32) (X3 : S32768x64.Idx → Elt F .f32) (X4 : S1x32768.Idx → Elt F .f32)
    (Z : S1x1015808.Idx → Elt F .f32) (M S : S1x1.Idx → Elt F .f32)
    (n : ℕ) (hn : n < 2 ^ 31) (hT : wordOf c T = BitVec.ofNat 32 n)
    (h0 : (i 0).val = 0) (K : PUnit → sProp 𝕄) :
    iprop(tbPt c T ∗ owns (c : Thread nD τ) arg2 fullShare X2 ∗ owns (c : Thread nD τ) arg3 fullShare X3
        ∗ owns (c : Thread nD τ) arg4 fullShare X4 ∗ owns (c : Thread nD τ) arg6 fullShare Z
        ∗ owns (c : Thread nD τ) arg7 fullShare M ∗ owns (c : Thread nD τ) arg8 fullShare S
        ∗ (iprop(tbPt c T ∗ owns (c : Thread nD τ) arg2 fullShare X2 ∗ owns (c : Thread nD τ) arg3 fullShare X3
            ∗ owns (c : Thread nD τ) arg4 fullShare X4
            ∗ owns (c : Thread nD τ) arg6 fullShare (zNext (i 0).val (k0_pay7 (row n X2) X3 X4) Z)
            ∗ owns (c : Thread nD τ) arg7 fullShare (mNext (i 0).val n X2 X3 X4 k0_pay1)
            ∗ owns (c : Thread nD τ) arg8 fullShare (sNext (i 0).val n X2 X3 X4 k0_pay1 k0_pay2)) -∗ K ⟨⟩))
      ⊢ wp frame (wpE (defs₀ (F := F)) Variants.none c none) Set.univ
          (cc0__body i tbM (Memref.isWhole_whole _) arg2 harg2 arg3 harg3 arg4 harg4 arg5 harg5 arg6 harg6 arg7 harg7 arg8 harg8) K := by
  have c1 := (cond1_iff i).mpr h0
  have c2 := (cond2_iff i).mpr (by omega)
  have c3 : ¬ k0_cond3 i = 1#1 := fun h => absurd ((cond3_iff i).mp h) (by omega)
  have hchk : k0_chk1 i (wordOf c T) := by rw [hT]; exact chk1 i n hn
  simp only [cc0__body_eq_skeleton]; unfold cc0__body_skel
  simp only [k0_part1_eq_skeleton]; unfold k0_part1_skel
  unfold owns
  iintro ⟨HT, ⟨%f2, %h2, H2⟩, ⟨%f3, %h3, H3⟩, ⟨%f4, %h4, H4⟩, ⟨%f6, %h6, H6⟩, ⟨%f7, %h7, H7⟩, ⟨%f8, %h8, H8⟩, Hk⟩
  subst h2 h3 h4 h6 h7 h8
  sl_exec
  sl_step
  iapply Hk
  isplitl [HT]; · iexact HT
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr; swap; · iexact H6
    ipureintro
    refine (read_zNext arg6.view f6 i _ _).trans ?_
    exact zNext_of (ld_row arg2.view f2 n _ _ hn hT) (View.readAt_full ..) (View.readAt_full ..)
  isplitl [H7]
  · iexists _; isplitr; swap; · iexact H7
    ipureintro
    rw [read_one]
    refine mNext_of (ld_row arg2.view f2 n _ _ hn hT) (View.readAt_full ..) (View.readAt_full ..) ?_
    unfold run_first.sl.v42
    exact View.readCov_cons_toLoadRect ..
  · iexists _; isplitr; swap; · iexact H8
    ipureintro
    rw [read_one]
    refine sNext_of (ld_row arg2.view f2 n _ _ hn hT) (View.readAt_full ..) (View.readAt_full ..) ?_ ?_ ?_
    · unfold run_first.sl.v42; exact View.readCov_cons_toLoadRect ..
    · unfold run_first.sl.v44; exact View.readCov_cons_toLoadRect ..
    · unfold run_first.sl.v45; exact View.readCov_cons_toLoadRect ..

/-- A point of the second pass. -/
theorem run_late (X5 : S1x32768.Idx → Elt F .f32)
    (Z : S1x1015808.Idx → Elt F .f32) (M S : S1x1.Idx → Elt F .f32)
    (h1 : 31 ≤ (i 0).val) (ht : (i 0).val - 31 < 31) (K : PUnit → sProp 𝕄) :
    iprop(owns (c : Thread nD τ) arg5 fullShare X5 ∗ owns (c : Thread nD τ) arg6 fullShare Z
        ∗ owns (c : Thread nD τ) arg7 fullShare M ∗ owns (c : Thread nD τ) arg8 fullShare S
        ∗ (iprop(owns (c : Thread nD τ) arg5 fullShare (k0_pay5 M S (zBlock ((i 0).val - 31) ht Z)) ∗ owns (c : Thread nD τ) arg6 fullShare Z
            ∗ owns (c : Thread nD τ) arg7 fullShare M ∗ owns (c : Thread nD τ) arg8 fullShare S) -∗ K ⟨⟩))
      ⊢ wp frame (wpE (defs₀ (F := F)) Variants.none c none) Set.univ
          (cc0__body i tbM (Memref.isWhole_whole _) arg2 harg2 arg3 harg3 arg4 harg4 arg5 harg5 arg6 harg6 arg7 harg7 arg8 harg8) K := by
  have c1 : ¬ (Scalar.cmpi .ne (Scalar.extui (Scalar.cmpi .eq (BitVec.ofNat 32 (i 0).val) 0#32)) 0#32 = 1#1) := fun h =>
    (show ¬ (i 0).val = 0 by omega) ((cond1_iff i).mp h)
  have c2 : ¬ k0_cond2 i = 1#1 := fun h => absurd ((cond2_iff i).mp h) (by omega)
  have c3 := (cond3_iff i).mpr h1
  simp only [cc0__body_eq_skeleton]; unfold cc0__body_skel
  unfold owns
  iintro ⟨⟨%f5, %h5, H5⟩, ⟨%f6, %h6, H6⟩, ⟨%f7, %h7, H7⟩, ⟨%f8, %h8, H8⟩, Hk⟩
  subst h5 h6 h7 h8
  sl_exec
  sl_step
  iapply Hk
  isplitl [H5]
  · iexists _; isplitr; swap; · iexact H5
    ipureintro
    rw [read_out, ld_zBlock arg6.view f6 i _ h1 ht, View.readAt_full, View.readAt_full]
  isplitl [H6]
  · iexists f6; isplitr; · ipureintro; rfl
    iexact H6
  isplitl [H7]
  · iexists f7; isplitr; · ipureintro; rfl
    iexact H7
  · iexists f8; isplitr; · ipureintro; rfl
    iexact H8

end

end Cert.KernelIdeal.Hand
-- ==== Proof.KernelIdealSound.lean ====
/-
  The pipeline's run from any launch memory whose table word is in range, for any float arithmetic and any invariant of the
  three scratch buffers that the body keeps: what every run of the kernel leaves in the output array is what the
  invariant says of the blocks written back.
-/
module

public import proofs.«01_k».proof.Proof.KernelIdealRun
public import Idealize.ShloMosaic.Lib.Pipeline.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The memory the pipeline starts from -/

/-- The buffers' contents at the region's entry: the launch memory with the bias reshaped into its buffer. -/
abbrev V (c : Dev nD) (b : Ref sig .tc) : Buf (Elt F) ((c : Thread nD τ).loc b) := StableHlo.after hostOps0 (fun b => m (c, b)) b

/-- The table's contents there, and the word they hold. -/
def tbl : pre0.Contents (Elt F) := fun j => V m (0 : Dev nD) (pre0.ref j)

theorem V_pre (c : Dev nD) (j : Fin 1) : V m c (pre0.ref j) = tbl m j := by
  obtain rfl : c = 0 := Subsingleton.elim _ _
  rfl

abbrev adm (hO : ok0 (tbl m)) : (pcfg0 (F := F)).Adm := ⟨tbl m, hO⟩

theorem tables_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The proof data -/

/-- What holds of the three scratch buffers before a point, as a predicate of the point's number and their contents. -/
abbrev Inv (F : FTy → Type) : Type :=
  ℕ → (S1x1015808.Idx → Elt F .f32) → (S1x1.Idx → Elt F .f32) → (S1x1.Idx → Elt F .f32) → Prop

variable (hO : ok0 (tbl m)) (I : Inv F) (Out : ℕ → (S1x32768.Idx → Elt F .f32) → Prop)

/-- The scratch buffers at contents the invariant allows. -/
def scratch (c : Dev nD) (t : ℕ) : sProp 𝕄 :=
  iprop(∃ Z M S, ⌜I t Z M S⌝ ∗ owns (c : Thread nD τ) (Memref.whole cc0_scratch0) fullShare Z
    ∗ owns (c : Thread nD τ) (Memref.whole cc0_scratch1) fullShare M ∗ owns (c : Thread nD τ) (Memref.whole cc0_scratch2) fullShare S)

/-- The relational proof data: an input's buffer is left as found, the output's as `Out` says. -/
def rdat (c : Dev nD) : RDat τ (Elt F) Unit ℕ (UR sig nD τ) ℕ (Pipeline.pin pcfgs (fun _ => adm m hO) 0) c where
  A w := V m c (Pipeline.arrRef spec0 w)
  after w t := match w with
    | 0 => fun Y X => X = Y
    | 1 => fun Y X => X = Y
    | 2 => fun Y X => X = Y
    | 3 => fun Y X => Out t.val X
  Φ t := iprop(scratch I c t.val ∗ (∃ r, prngReg c r) ∗ Pipeline.ΦT pre0 (tbl m) c)
  q _ := fullShare
  owed _ := 0

/-- What the invariant must do along the body: hold of anything at the start, pass a point of the first pass, and at a point of
    the second hold on and give the block its property. -/
structure Keeps (c : Dev nD) (n : ℕ) : Prop where
  zero : ∀ Z M S, I 0 Z M S
  fold : ∀ (t : Fin grid0.N) (Y0 : S8x64.Idx → Elt F .f32) (Y1 : S32768x64.Idx → Elt F .f32) (Y2 : S1x32768.Idx → Elt F .f32) Z M S,
    (∃ d, Y0 = (rdat m hO I Out c).fetched 0 t d) → (∃ d, Y1 = (rdat m hO I Out c).fetched 1 t d) →
    (∃ d, Y2 = (rdat m hO I Out c).fetched 2 t d) → t.val < 31 → I t.val Z M S →
    I (t.val + 1) (zNext t.val (k0_pay7 (row n Y0) Y1 Y2) Z) (mNext t.val n Y0 Y1 Y2 (if t.val = 0 then k0_pay1 else M))
      (sNext t.val n Y0 Y1 Y2 (if t.val = 0 then k0_pay1 else M) (if t.val = 0 then k0_pay2 else S))
  free : ∀ t, t < 31 → ∀ X, Out t X
  late : ∀ t, 31 ≤ t → ∀ ht Z M S, I t Z M S → I (t + 1) Z M S ∧ Out t (k0_pay5 M S (zBlock (t - 31) ht Z))

/-! ## The body at a point -/

/-- The body at a point, in the program's own text. -/
def bodyAt (t : Fin grid0.N) (s : (w : Fin 4) → Fin (spec0 w).nbuf) : Prog (TpuEff nD τ sig (Elt F) Λ₀ .tc) PUnit :=
  cc0__body (grid0.coords t) tbM (Memref.isWhole_whole _) (spec0_0.stage (s 0)) (hstage0_0 ((s 0).cast nbuf0_0)) (spec0_1.stage (s 1)) (hstage0_1 ((s 1).cast nbuf0_1))
    (spec0_2.stage (s 2)) (hstage0_2 ((s 2).cast nbuf0_2)) (spec0_3.stage (s 3)) (hstage0_3 ((s 3).cast nbuf0_3))
    (Memref.whole cc0_scratch0) (Memref.isWhole_whole _) (Memref.whole cc0_scratch1) (Memref.isWhole_whole _) (Memref.whole cc0_scratch2) (Memref.isWhole_whole _)

/-- What the body is called with at a point, and what it returns. -/
def bodyPre (c : Dev nD) (t : Fin grid0.N) (s : (w : Fin 4) → Fin (spec0 w).nbuf)
    (Y0 : S8x64.Idx → Elt F .f32) (Y1 : S32768x64.Idx → Elt F .f32) (Y2 Y3 : S1x32768.Idx → Elt F .f32) : sProp 𝕄 :=
  iprop((scratch I c t.val ∗ (∃ r, prngReg c r) ∗ Pipeline.ΦT pre0 (tbl m) c) ∗ (rdat m hO I Out c).owesAt () t.castSucc
    ∗ owns (c : Thread nD τ) (spec0_0.stage (s 0)) fullShare Y0 ∗ owns (c : Thread nD τ) (spec0_1.stage (s 1)) fullShare Y1
    ∗ owns (c : Thread nD τ) (spec0_2.stage (s 2)) fullShare Y2 ∗ owns (c : Thread nD τ) (spec0_3.stage (s 3)) fullShare Y3)
def bodyPost (c : Dev nD) (t : Fin grid0.N) (s : (w : Fin 4) → Fin (spec0 w).nbuf)
    (Y0 : S8x64.Idx → Elt F .f32) (Y1 : S32768x64.Idx → Elt F .f32) (Y2 Y3 : S1x32768.Idx → Elt F .f32) : sProp 𝕄 :=
  iprop((scratch I c (t.val + 1) ∗ (∃ r, prngReg c r) ∗ Pipeline.ΦT pre0 (tbl m) c) ∗ (rdat m hO I Out c).owesAt () t.succ
    ∗ (∃ X, ⌜X = Y0⌝ ∗ owns (c : Thread nD τ) (spec0_0.stage (s 0)) fullShare X)
    ∗ (∃ X, ⌜X = Y1⌝ ∗ owns (c : Thread nD τ) (spec0_1.stage (s 1)) fullShare X)
    ∗ (∃ X, ⌜X = Y2⌝ ∗ owns (c : Thread nD τ) (spec0_2.stage (s 2)) fullShare X)
    ∗ (∃ X, ⌜Out t.val X⌝ ∗ owns (c : Thread nD τ) (spec0_3.stage (s 3)) fullShare X))

theorem sound_body (c : Dev nD) (n : ℕ) (hn : n < 1000000) (hw : word (tbl m) = BitVec.ofNat 32 n) (hK : Keeps m hO I Out c n)
    (t : Fin grid0.N) (s : (w : Fin 4) → Fin (spec0 w).nbuf) (Y0 : S8x64.Idx → Elt F .f32) (Y1 : S32768x64.Idx → Elt F .f32)
    (Y2 Y3 : S1x32768.Idx → Elt F .f32) (h0 : ∃ d, Y0 = (rdat m hO I Out c).fetched 0 t d)
    (h1 : ∃ d, Y1 = (rdat m hO I Out c).fetched 1 t d) (h2 : ∃ d, Y2 = (rdat m hO I Out c).fetched 2 t d) :
    bodyPre m hO I Out c t s Y0 Y1 Y2 Y3
      ⊢ wp frame (wpE (defs₀ (F := F)) Variants.none c none) Set.univ (bodyAt t s) (fun _ => bodyPost m hO I Out c t s Y0 Y1 Y2 Y3) := by
  have hct : (grid0.coords t 0).val = t.val := coords_val t
  have hT : wordOf c (tbl m 0) = BitVec.ofNat 32 n := by
    obtain rfl : c = 0 := Subsingleton.elim _ _
    exact hw
  have hN : t.val < 62 := t.isLt.trans_eq N_0
  unfold bodyPre bodyPost bodyAt
  rw [show (rdat m hO I Out c).owesAt () t.succ = (rdat m hO I Out c).owesAt () t.castSucc from rfl, tables_eq]
  unfold scratch
  iintro ⟨⟨⟨%Z, %M, %S, %hI, HZ, HM, HS⟩, Hg, HT⟩, HO, H0, H1, H2, H3⟩
  by_cases hz : t.val = 0
  · have hf := hK.fold t Y0 Y1 Y2 Z M S h0 h1 h2 (by omega) hI
    iapply (run_first c (grid0.coords t) _ _ _ _ _ _ _ _ _ _ _ _ _ _ (tbl m 0) Y0 Y1 Y2 Z M S n (by omega) hT (by omega) _)
    isplitl [HT]; · iexact HT
    isplitl [H0]; · iexact H0
    isplitl [H1]; · iexact H1
    isplitl [H2]; · iexact H2
    isplitl [HZ]; · iexact HZ
    isplitl [HM]; · iexact HM
    isplitl [HS]; · iexact HS
    iintro ⟨HT, H0, H1, H2, HZ, HM, HS⟩
    isplitl [HT Hg HZ HM HS]
    · isplitl [HZ HM HS]
      · iexists _, _, _
        isplitr; swap
        · isplitl [HZ]; · iexact HZ
          isplitl [HM]; · iexact HM
          iexact HS
        ipureintro
        rw [hct]
        rw [if_pos hz, if_pos hz] at hf
        exact hf
      isplitl [Hg]; · iexact Hg
      iexact HT
    isplitl [HO]; · iexact HO
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    iexists _; isplitr; swap; · iexact H3
    ipureintro; exact hK.free _ (by omega) _
  · by_cases hl : t.val < 31
    · have hf := hK.fold t Y0 Y1 Y2 Z M S h0 h1 h2 hl hI
      iapply (run_mid c (grid0.coords t) _ _ _ _ _ _ _ _ _ _ _ _ _ _ (tbl m 0) Y0 Y1 Y2 Z M S n (by omega) hT (by omega) (by omega) _)
      isplitl [HT]; · iexact HT
      isplitl [H0]; · iexact H0
      isplitl [H1]; · iexact H1
      isplitl [H2]; · iexact H2
      isplitl [HZ]; · iexact HZ
      isplitl [HM]; · iexact HM
      isplitl [HS]; · iexact HS
      iintro ⟨HT, H0, H1, H2, HZ, HM, HS⟩
      isplitl [HT Hg HZ HM HS]
      · isplitl [HZ HM HS]
        · iexists _, _, _
          isplitr; swap
          · isplitl [HZ]; · iexact HZ
            isplitl [HM]; · iexact HM
            iexact HS
          ipureintro
          rw [hct]
          rw [if_neg hz, if_neg hz] at hf
          exact hf
        isplitl [Hg]; · iexact Hg
        iexact HT
      isplitl [HO]; · iexact HO
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      iexists _; isplitr; swap; · iexact H3
      ipureintro; exact hK.free _ hl _
    · have ht : (grid0.coords t 0).val - 31 < 31 := by omega
      have hf := hK.late (grid0.coords t 0).val (by omega) ht Z M S (by rw [hct]; exact hI)
      iapply (run_late c (grid0.coords t) _ _ _ _ _ _ _ _ _ _ _ _ _ _ Y3 Z M S (by omega) ht _)
      isplitl [H3]; · iexact H3
      isplitl [HZ]; · iexact HZ
      isplitl [HM]; · iexact HM
      isplitl [HS]; · iexact HS
      iintro ⟨H3, HZ, HM, HS⟩
      isplitl [HT Hg HZ HM HS]
      · isplitl [HZ HM HS]
        · iexists _, _, _
          isplitr; swap
          · isplitl [HZ]; · iexact HZ
            isplitl [HM]; · iexact HM
            iexact HS
          ipureintro
          rw [← hct]; exact hf.1
        isplitl [Hg]; · iexact Hg
        iexact HT
      isplitl [HO]; · iexact HO
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      iexists _; isplitr; swap; · iexact H3
      ipureintro; rw [← hct]; exact hf.2

/-- The body table's row at a point is the body. -/
theorem defs₀_row (t : Fin grid0.N) (s : (w : Fin 4) → Fin (spec0 w).nbuf) : defs₀ (F := F) .tc 0 (t, s) = bodyAt t s := by
  unfold defs₀; rw [Defs.onTc_tc]; rfl

variable {m hO I Out}

/-- What an input window's buffer holds wherever the body is handed it: the array's block, fetched there or not. -/
theorem found (c : Dev nD) (w : Fin 4) (hw : w ≠ 3) (t : Fin grid0.N) (Y) (h : (rdat m hO I Out c).Finds w t Y) :
    ∃ d, Y = (rdat m hO I Out c).fetched w t d := by
  refine RDat.finds_in_eq_fetched (rdat m hO I Out c) w ?_ ?_ ?_ t Y h
  · fin_cases w
    · rfl
    · rfl
    · rfl
    · exact absurd rfl hw
  · intro t t' e
    fin_cases w
    · rfl
    · funext a; exact congrArg (fun ix : Fin 2 → ℕ => Pipeline.Clip.of (ix a) (spec0_1.size a) (spec0_1.shape.size a)) e
    · funext a; exact congrArg (fun ix : Fin 2 → ℕ => Pipeline.Clip.of (ix a) (spec0_2.size a) (spec0_2.shape.size a)) e
    · exact absurd rfl hw
  · intro t Y X e
    fin_cases w
    · exact e
    · exact e
    · exact e
    · exact absurd rfl hw

theorem body_obligation (c : Dev nD) (n : ℕ) (hn : n < 1000000) (hw : word (tbl m) = BitVec.ofNat 32 n) (hK : Keeps m hO I Out c n) :
    (rdat m hO I Out c).BodyObligation (defs₀ (F := F)) Variants.none () Set.univ := fun t Y hY => by
  rw [bigSep_W0, bigSep_W0]
  erw [defs₀_row]
  exact triple_restated (sound_body m hO I Out c n hn hw hK t _ (Y 0) (Y 1) (Y 2) (Y 3) (found c 0 (by decide) t _ (hY 0))
    (found c 1 (by decide) t _ (hY 1)) (found c 2 (by decide) t _ (hY 2))) rfl .rfl fun _ => .rfl

/-! ## The launch -/

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub rfl main_chain

theorem share_full (c : Dev nD) (w : Fin 4) : (rdat m hO I Out c).share w = fullShare := by
  unfold RDat.share; split <;> rfl

/-- The invariant from what the region enters with: the scratch buffers at anything. -/
theorem enter (c : Dev nD) {n : ℕ} (hK : Keeps m hO I Out c n) :
    iprop(Pipeline.ΦA spec0 c ∗ Pipeline.ΦT pre0 (tbl m) c) ⊢ ((rdat m hO I Out c).Φ 0 : sProp 𝕄) := by
  show _ ⊢ iprop(scratch I c 0 ∗ (∃ r, prngReg c r) ∗ Pipeline.ΦT pre0 (tbl m) c)
  unfold Pipeline.ΦA scratch
  rw [scopedRest0_eq]
  simp only [owns_whole]
  iintro ⟨⟨⟨⟨%f0, H0⟩, ⟨%f1, H1⟩, ⟨%f2, H2⟩⟩, Hg⟩, HT⟩
  isplitl [H0 H1 H2]
  · iexists f0, f1, f2
    isplitr; · ipureintro; exact hK.zero _ _ _
    isplitl [H0]; · iexact H0
    isplitl [H1]; · iexact H1
    iexact H2
  isplitl [Hg]; · iexact Hg
  iexact HT

/-- And given back at the end. -/
theorem leave (c : Dev nD) : ((rdat m hO I Out c).Φ (Fin.last _) : sProp 𝕄) ⊢ Pipeline.ΦA spec0 c := by
  show iprop(scratch I c _ ∗ (∃ r, prngReg c r) ∗ Pipeline.ΦT pre0 (tbl m) c) ⊢ _
  unfold Pipeline.ΦA scratch
  rw [scopedRest0_eq]
  simp only [owns_whole]
  iintro ⟨⟨%Z, %M, %S, -, H0, H1, H2⟩, Hg, -⟩
  isplitl [H0 H1 H2]
  · isplitl [H0]; · iexists Z; iexact H0
    isplitl [H1]; · iexists M; iexact H1
    iexists S; iexact H2
  iexact Hg

set_option backward.isDefEq.respectTransparency.types false in
/-- Every weakly fair execution ends, with the arrays as the proof data say, every other buffer as at the region's entry
    and every counter at zero. -/
theorem run_main (n : ℕ) (hn : n < 1000000) (hw : word (tbl m) = BitVec.ofNat 32 n) (hK : ∀ c, Keeps m hO I Out c n) :
    θ_run defs (onTc (τ := τ) (main (F := F))) (s₀ m ρ)
      (fun r => RDat.FramePost (Pipeline.pin pcfgs (fun _ => adm m hO) 0) (rdat m hO I Out) (V m) r ∧ r.2.sem = fun _ => 0) :=
  RDat.θ_run_frameP_track (Q' := _) pcfgs (fun _ => adm m hO) (0 : Fin 1) launch0 defs₀ Variants.none (rdat m hO I Out) m ρ main
    (hbody := fun c => body_obligation c n hn hw (hK c)) (hshare := share_full)
    (howed := fun _ _ => rfl) (V := V m) (hmain := hmain Variants.none) (hA := fun _ _ => rfl) (hpf := V_pre m)
    (hin := fun c => enter c (hK c)) (hout := leave)

/-! ## The argument arrays at the end -/

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl

theorem args_kept {r : PUnit × MemSt nD τ sig (Elt F)}
    (h : RDat.FramePost (Pipeline.pin pcfgs (fun _ => adm m hO) 0) (rdat m hO I Out) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).2 main_arg0 (by decide : main_arg0 ∈ Pipeline.restRefs sig spec0)).trans (V_arg0 c),
    (RDat.FramePost.arr_in h c (0 : Fin 4) rfl).trans (show (rdat m hO I Out c).A (0 : Fin 4) = _ from V_arg1 (m := m) c),
    (RDat.FramePost.arr_in h c (1 : Fin 4) rfl).trans (show (rdat m hO I Out c).A (1 : Fin 4) = _ from V_arg2 (m := m) c),
    ((h c).2 main_arg3 (by decide : main_arg3 ∈ Pipeline.restRefs sig spec0)).trans (V_arg3 c)⟩

/-- THE FRAME: from any memory whose table word is below the table's height, every run ends with the arguments as they were
    and every counter at zero. -/
theorem run_frame (n : ℕ) (hn : n < 1000000) (hw : word (tbl m) = BitVec.ofNat 32 n) :
    θ_run defs (onTc (τ := τ) (main (F := F))) ⟨m, fun _ => 0, ρ⟩
      (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun r h => ⟨args_kept h.1, h.2⟩)
    (run_main (hO := ok_of_lt (tbl m) n hn hw) (I := fun _ _ _ _ => True) (Out := fun _ _ => True) ρ n hn hw fun c =>
      ⟨fun _ _ _ => trivial, fun _ _ _ _ _ _ _ _ _ _ _ _ => trivial, fun _ _ _ => trivial, fun _ _ _ _ _ _ _ => ⟨trivial, trivial⟩⟩)

end Cert.KernelIdeal.Hand

end
-- ==== Proof.PreWord.lean ====
/-
  What the range precondition says of the table word — it is a natural number below the table's height — and the frames.
-/
module

public import proofs.«01_k».proof.Defs
public import proofs.«01_k».proof.Proof.Gen.Pre_word_in_range
public import proofs.«01_k».proof.Proof.Gen.ReferenceIdeal.Run
public import proofs.«01_k».proof.Proof.KernelSound
public import proofs.«01_k».proof.Proof.KernelIdealSound
public import Idealize.ShloMosaic.Lib.StableHlo.Predicate

@[expose] public section

set_option maxRecDepth 16384

noncomputable section

namespace Cert.PreWord

open Idealize.ShloMosaic Idealize.ShloMosaic.TcCoe Idealize.SL.Sem

attribute [local instance] Cert.Pre_word_in_range.Gen.facts
  Cert.Kernel.Gen.facts Cert.KernelIdeal.Gen.facts Cert.ReferenceIdeal.Gen.facts

/-- A 32-bit word that reads signed as at least 0 and below 1000000 is the word of a natural number below 1000000. -/
theorem small_of_signed (x : BitVec 32)
    (h : IntOp.andi (IntOp.cmpi .sge x 0#32) (IntOp.cmpi .slt x 1000000#32) = 1#1) : ∃ n, n < 1000000 ∧ x = BitVec.ofNat 32 n := by
  refine ⟨x.toNat, ?_, by simp⟩
  have h' : BitVec.ofBool ((0#32).sle x) &&& BitVec.ofBool (x.slt 1000000#32) = 1#1 := h
  have h1 : (0#32).sle x = true ∧ x.slt 1000000#32 = true := by
    revert h'
    cases (0#32).sle x <;> cases x.slt 1000000#32 <;> decide
  have a1 : 0 ≤ x.toInt := by simpa [BitVec.sle] using h1.1
  have a2 : x.toInt < 1000000 := by simpa [BitVec.slt] using h1.2
  rw [BitVec.toInt_eq_toNat_cond] at a1 a2
  split at a1 <;> omega

/-- The same of the precondition's whole vector. -/
theorem small_of_fn {F : FTy → Type} [FloatOps F] (x0 : IVec Cert.Pre_word_in_range.S1 32) (x1 : FVec F Cert.Pre_word_in_range.S1000000x64 .f32)
    (x2 : FVec F Cert.Pre_word_in_range.S1000000x64 .f32) (x3 : FVec F Cert.Pre_word_in_range.S1000000 .f32)
    (h : Cert.Pre_word_in_range.fn x0 x1 x2 x3 = fun _ => 1#1) (y : Cert.Pre_word_in_range.S1.Idx) :
    ∃ n, n < 1000000 ∧ x0 y = BitVec.ofNat 32 n := small_of_signed (x0 y) (congrFun h y)

theorem word_Kernel (m) (h : Cert.Pre_Kernel m) :
    ∃ n, n < 1000000 ∧ Cert.Kernel.Hand.word (Cert.Kernel.Hand.tbl m) = BitVec.ofNat 32 n :=
  small_of_fn _ _ _ _ (h 0) _

theorem word_KernelIdeal (m) (h : Cert.Pre_KernelIdeal m) :
    ∃ n, n < 1000000 ∧ Cert.KernelIdeal.Hand.word (Cert.KernelIdeal.Hand.tbl m) = BitVec.ofNat 32 n :=
  small_of_fn _ _ _ _ (h 0) _

/-- The frames. -/
theorem frame_Kernel : Cert.quiescent_Kernel := fun m g h => by
  obtain ⟨n, hn, hw⟩ := word_Kernel m h
  exact Cert.Kernel.Hand.run_frame g n hn hw

theorem frame_KernelIdeal : Cert.quiescent_KernelIdeal := fun m g h => by
  obtain ⟨n, hn, hw⟩ := word_KernelIdeal m h
  exact Cert.KernelIdeal.Hand.run_frame g n hn hw

theorem frame_ReferenceIdeal : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run (F := Ideal) m g)

end Cert.PreWord

end
-- ==== Proof.LogSum.lean ====
/-
  A maximum and a sum of exponentials kept over the extended reals: folding a further block of values into the pair,
  with the old sum rescaled by the old maximum less the new, gives the pair of all values so far; and subtracting the
  maximum and the logarithm of the sum one after the other is subtracting their sum.
-/
module

public import Idealize.ShloMosaic.PureOps.Ideal

@[expose] public section

noncomputable section

namespace Cert.LogSum

open Idealize.ShloMosaic

/-- The maximum of the first `n` values, `⊥` when there is none. -/
def mx (f : ℕ → EReal) (n : ℕ) : EReal := (Finset.range n).sup f

/-- The sum of the exponentials of the first `n` values, each less their maximum. -/
def sm (f : ℕ → EReal) (n : ℕ) : EReal := ∑ v ∈ Finset.range n, Ideal.exp (f v - mx f n)

theorem mx_zero (f : ℕ → EReal) : mx f 0 = ⊥ := rfl

theorem sm_zero (f : ℕ → EReal) : sm f 0 = 0 := rfl

theorem le_mx (f : ℕ → EReal) {v n : ℕ} (h : v < n) : f v ≤ mx f n := Finset.le_sup (Finset.mem_range.mpr h)

theorem mx_ne_top {f : ℕ → EReal} (hf : ∀ v, f v ≠ ⊤) (n : ℕ) : mx f n ≠ ⊤ :=
  ((Finset.sup_lt_iff (bot_lt_top)).mpr fun v _ => lt_top_iff_ne_top.mpr (hf v)).ne

theorem exp_nonneg (x : EReal) : 0 ≤ Ideal.exp x := by
  induction x with
  | bot => exact Ideal.exp_bot.ge
  | top => exact Ideal.exp_top ▸ le_top
  | coe r => rw [Ideal.exp_coe]; exact_mod_cast (Real.exp_pos r).le

/-- Rescaling one term from an older maximum to a newer one. -/
theorem exp_shift {x m m' : EReal} (h : x ≤ m) (h' : m ≤ m') (ht : m' ≠ ⊤) :
    Ideal.exp (x - m) * Ideal.exp (m - m') = Ideal.exp (x - m') := by
  induction x with
  | bot => rw [EReal.bot_sub, EReal.bot_sub, Ideal.exp_bot, zero_mul]
  | top => exact absurd (top_le_iff.mp (h.trans h')) ht
  | coe r =>
    induction m with
    | bot => exact absurd h (by simp)
    | top => exact absurd (top_le_iff.mp h') ht
    | coe q =>
      induction m' with
      | bot => exact absurd h' (by simp)
      | top => exact absurd rfl ht
      | coe p =>
        rw [← EReal.coe_sub, ← EReal.coe_sub, ← EReal.coe_sub, Ideal.exp_coe, Ideal.exp_coe, Ideal.exp_coe, ← EReal.coe_mul,
          ← Real.exp_add]
        congr 2
        ring

theorem sum_mul {ι : Type} (s : Finset ι) (g : ι → EReal) (hg : ∀ i, 0 ≤ g i) (c : EReal) :
    (∑ i ∈ s, g i) * c = ∑ i ∈ s, g i * c := by
  classical
  induction s using Finset.induction_on with
  | empty => simp
  | insert a s ha ih =>
    rw [Finset.sum_insert ha, Finset.sum_insert ha, EReal.right_distrib_of_nonneg (hg a) (Finset.sum_nonneg fun i _ => hg i),
      ih]

/-- A block of values, taken as a maximum over its places, joins the values before it. -/
theorem mx_add (f : ℕ → EReal) (n K : ℕ) (g : Fin K → EReal) (hg : ∀ k, g k = f (n + k.val)) :
    max (mx f n) (Finset.univ.sup g) = mx f (n + K) := by
  refine le_antisymm (max_le (Finset.sup_mono fun v hv => ?_) (Finset.sup_le fun k _ => ?_)) (Finset.sup_le fun v hv => ?_)
  · rw [Finset.mem_range] at hv ⊢; omega
  · rw [hg]; exact le_mx f (by have := k.isLt; omega)
  · rw [Finset.mem_range] at hv
    by_cases h : v < n
    · exact (le_mx f h).trans (le_max_left _ _)
    · refine le_trans ?_ (le_max_right _ _)
      have e : g ⟨v - n, by omega⟩ = f v := by rw [hg]; congr 1; show n + (v - n) = v; omega
      exact e ▸ Finset.le_sup (f := g) (Finset.mem_univ _)

/-- The sum over the first `n + K` values from the sum over the first `n` and the block's. -/
theorem sm_add {f : ℕ → EReal} (hf : ∀ v, f v ≠ ⊤) (n K : ℕ) (g : Fin K → EReal) (hg : ∀ k, g k = f (n + k.val)) :
    sm f n * Ideal.exp (mx f n - mx f (n + K)) + ∑ k : Fin K, Ideal.exp (g k - mx f (n + K)) = sm f (n + K) := by
  have hle : mx f n ≤ mx f (n + K) := (le_max_left _ _).trans (mx_add f n K g hg).le
  have h1 : sm f n * Ideal.exp (mx f n - mx f (n + K)) = ∑ v ∈ Finset.range n, Ideal.exp (f v - mx f (n + K)) := by
    unfold sm
    rw [sum_mul _ _ fun _ => exp_nonneg _]
    exact Finset.sum_congr rfl fun v hv => exp_shift (le_mx f (Finset.mem_range.mp hv)) hle (mx_ne_top hf _)
  have h2 : ∑ k : Fin K, Ideal.exp (g k - mx f (n + K)) = ∑ k ∈ Finset.range K, Ideal.exp (f (n + k) - mx f (n + K)) := by
    rw [Finset.sum_range]
    exact Finset.sum_congr rfl fun k _ => by rw [hg]
  rw [h1, h2]
  exact (Finset.sum_range_add (fun v => Ideal.exp (f v - mx f (n + K))) n K).symm

/-- Values `⊥` beyond the first `n` change neither the maximum … -/
theorem mx_tail {f : ℕ → EReal} {n N : ℕ} (h : n ≤ N) (hf : ∀ v, n ≤ v → f v = ⊥) : mx f N = mx f n := by
  refine le_antisymm (Finset.sup_le fun v hv => ?_) (Finset.sup_mono fun v hv => ?_)
  · by_cases hv' : v < n
    · exact le_mx f hv'
    · rw [hf v (by omega)]; exact bot_le
  · rw [Finset.mem_range] at hv ⊢; omega

/-- … nor the sum. -/
theorem sm_tail {f : ℕ → EReal} {n N : ℕ} (h : n ≤ N) (hf : ∀ v, n ≤ v → f v = ⊥) : sm f N = sm f n := by
  unfold sm
  rw [mx_tail h hf]
  symm
  refine Finset.sum_subset (fun v hv => ?_) fun v _ hv => ?_
  · rw [Finset.mem_range] at hv ⊢; omega
  · rw [Finset.mem_range] at hv
    rw [hf v (by omega), EReal.bot_sub, Ideal.exp_bot]

/-- Subtracting a value at least as large, and not `⊤`, and then another, is subtracting their sum. -/
theorem sub_add_eq {x m l : EReal} (h : x ≤ m) (ht : m ≠ ⊤) : x - (m + l) = x - m - l := by
  induction m with
  | bot =>
    rw [le_bot_iff.mp h, EReal.bot_sub, EReal.bot_sub, EReal.bot_sub]
  | top => exact absurd rfl ht
  | coe r =>
    rw [sub_eq_add_neg, sub_eq_add_neg, sub_eq_add_neg, EReal.neg_add (Or.inl (EReal.coe_ne_bot r)) (Or.inl (EReal.coe_ne_top r)),
      sub_eq_add_neg, add_assoc]

theorem sup_range (f : ℕ → EReal) (n : ℕ) (g : Fin n → EReal) (hg : ∀ k, g k = f k.val) : Finset.univ.sup g = mx f n := by
  have h := mx_add f 0 n g fun k => by rw [hg, Nat.zero_add]
  rw [Nat.zero_add, mx_zero] at h
  rw [← h]; exact (max_eq_right bot_le).symm

theorem sum_range (f : ℕ → EReal) (n : ℕ) (g : Fin n → EReal) (hg : ∀ k, g k = f k.val) :
    ∑ k : Fin n, Ideal.exp (g k - mx f n) = sm f n := by
  unfold sm
  rw [Finset.sum_range]
  exact Finset.sum_congr rfl fun k _ => by rw [hg]

/-- A maximum folded from `⊥` over a finite type is its least upper bound. -/
theorem fold_max {ι : Type} (s : Finset ι) (g : ι → EReal) : Finset.fold max ⊥ g s = s.sup g := rfl

end Cert.LogSum

end
-- ==== Proof.Logits.lean ====
/-
  The logits both programs compute, as one function of the arrays: entry `v` is the product of row `n` of the table with
  row `v` of the weights, plus the bias at `v`; and the logarithm of the softmax of all of them.
-/
module

public import proofs.«01_k».proof.Proof.LogSum
public import Idealize.ShloMosaic.Lib.Pointwise.Index

@[expose] public section

noncomputable section

namespace Cert.Logits

open Idealize.ShloMosaic Cert.LogSum

/-- Logit `v`; `⊥` beyond the vocabulary. -/
def logit (tab W : (⟨2, ![1000000, 64]⟩ : Shape).Idx → EReal) (b : (⟨1, ![1000000]⟩ : Shape).Idx → EReal) (n : Fin 1000000) (v : ℕ) : EReal :=
  if h : v < 1000000 then (∑ k : Fin 64, tab (ix2 n k) * W (ix2 ⟨v, h⟩ k)) + b (ix1 ⟨v, h⟩) else ⊥

theorem logit_of_lt {tab W : (⟨2, ![1000000, 64]⟩ : Shape).Idx → EReal} {b : (⟨1, ![1000000]⟩ : Shape).Idx → EReal} {n : Fin 1000000}
    {v : ℕ} (h : v < 1000000) : logit tab W b n v = (∑ k : Fin 64, tab (ix2 n k) * W (ix2 ⟨v, h⟩ k)) + b (ix1 ⟨v, h⟩) := dif_pos h

theorem logit_of_ge {tab W : (⟨2, ![1000000, 64]⟩ : Shape).Idx → EReal} {b : (⟨1, ![1000000]⟩ : Shape).Idx → EReal} {n : Fin 1000000}
    {v : ℕ} (h : 1000000 ≤ v) : logit tab W b n v = ⊥ := dif_neg (by omega)

/-- The logarithm of the softmax at `v`. -/
def logSoftmax (f : ℕ → EReal) (v : ℕ) : EReal := f v - mx f 1000000 - Ideal.log (sm f 1000000)

end Cert.Logits

end
-- ==== Proof.PreLogits.lean ====
/-
  What the second precondition says: the table word is a natural number below the table's height, and no logit is plus
  infinity; and the frames under it.
-/
module

public import proofs.«01_k».proof.Proof.PreWord
public import proofs.«01_k».proof.Proof.Logits
public import proofs.«01_k».proof.Proof.Gen.Pre_logits_below_infinity
public import Idealize.ShloMosaic.Lib.Pointwise
public import Idealize.ShloMosaic.Lib.DynamicIndex
public import Idealize.ShloMosaic.PureOps.Ideal.Laws

@[expose] public section

set_option maxRecDepth 16384

noncomputable section

namespace Cert.PreLogits

open Idealize.ShloMosaic Idealize.ShloMosaic.TcCoe Idealize.SL.Sem Cert.Logits

attribute [local instance] Cert.Pre_logits_below_infinity.Gen.facts Cert.KernelIdeal.Gen.facts Cert.ReferenceIdeal.Gen.facts

theorem word_KernelIdeal_logits (m) (h : Cert.Pre_KernelIdeal_logits_below_infinity m) :
    ∃ n, n < 1000000 ∧ Cert.KernelIdeal.Hand.word (Cert.KernelIdeal.Hand.tbl m) = BitVec.ofNat 32 n :=
  Cert.PreWord.small_of_signed _ (congrFun (h 0).1 _)

theorem frame_KernelIdeal_logits : Cert.quiescent_KernelIdeal_pre_logits_below_infinity := fun m g h => by
  obtain ⟨n, hn, hw⟩ := word_KernelIdeal_logits m h
  exact Cert.KernelIdeal.Hand.run_frame g n hn hw

theorem frame_ReferenceIdeal_logits : Cert.quiescent_ReferenceIdeal_pre_logits_below_infinity := fun m g _ =>
  Cert.PreWord.frame_ReferenceIdeal m g trivial

/-! ## The logits -/

open Cert.Pre_logits_below_infinity Cert.Pre_logits_below_infinity.Gen

theorem ofBits_inf : Ideal.ofBits .f32 0x7F800000#32 = ⊤ := by simp [Ideal.ofBits, Ideal.ieee]

/-- An ordered compare that answers one. -/
theorem lt_of_cmp {x y : EReal} (h : Ideal.cmp .olt x y = 1#1) : x < y := by
  unfold Ideal.cmp at h
  by_contra hc
  simp [hc] at h

/-- The row the precondition slices out of the table. -/
theorem slice_eq (x1 : S1000000x64.Idx → EReal) (n : Fin 1000000) (start : Fin 2 → Int) (h0 : start 0 = n.val) (h1 : start 1 = 0) (k : Fin 64) :
    Host.dynamicSlice S1x64 x1 start sliceFits_S1000000x64_S1x64 (ix2 0 k) = x1 (ix2 n k) := by
  have hn := n.isLt
  rw [Host.dynamicSlice_eq_extractStridedSlice S1x64 x1 start ![n.val, 0] sliceFits_S1000000x64_S1x64
    ⟨rfl, fun a => by fin_cases a <;> [(show n.val + 1 ≤ 1000000; omega); (show 0 + 64 ≤ 64; omega)]⟩
    (fun a => by fin_cases a <;> [exact h0; exact h1])]
  unfold extractStridedSlice
  refine congrArg x1 (funext fun a => Fin.ext ?_)
  fin_cases a
  · show n.val + 0 = n.val; omega
  · show 0 + k.val = k.val; omega

theorem dot_eq (e : S1x64.Idx → EReal) (W : S1000000x64.Idx → EReal) (v : Fin 1000000) :
    Host.dotGeneral (F := Ideal) (φ₁ := .f32) (φ₂ := .f32) dot_S1x64_S1000000x64_S1x1000000_1_1_0_0_n_n none e W (ix2 0 v)
      = ∑ k : Fin 64, e (ix2 0 k) * W (ix2 v k) := by
  pointwise

theorem bias_eq (b : S1000000.Idx → EReal) (v : Fin 1000000) :
    shapeCast S1x1000000 b shapeCasts_S1000000_S1x1000000 (ix2 0 v) = b (ix1 v) := by
  pointwise

theorem lt_top_of_fn (x0 : IVec S1 32) (x1 x2 : S1000000x64.Idx → EReal) (x3 : S1000000.Idx → EReal) (n : Fin 1000000)
    (hx : ∀ i, x0 i = BitVec.ofNat 32 n.val) (h : (fn (F := Ideal) x0 x1 x2 x3).2 = fun _ => 1#1) (v : ℕ) :
    logit x1 x2 x3 n v ≠ ⊤ := by
  by_cases hv : v < 1000000
  · have hn := n.isLt
    have hi : (BitVec.ofNat 32 n.val).toInt = n.val := by
      rw [BitVec.toInt_eq_toNat_of_lt (by rw [BitVec.toNat_ofNat]; omega), BitVec.toNat_ofNat]; omega
    have h' := congrFun h (ix2 0 ⟨v, hv⟩)
    have h2 := lt_of_cmp h'
    rw [logit_of_lt hv]
    refine ne_of_lt (lt_of_lt_of_eq (lt_of_eq_of_lt ?_ h2) ofBits_inf)
    symm
    refine congrArg₂ (fun a b : EReal => a + b) ((dot_eq _ x2 ⟨v, hv⟩).trans (Finset.sum_congr rfl fun k _ => congrArg (· * _) ?_)) (bias_eq x3 ⟨v, hv⟩)
    refine slice_eq x1 n _ ?_ rfl k
    show (select _ _ _ _ : BitVec 32).toInt = _
    rw [select_slt_zero_of_nonneg]
    · exact (congrArg BitVec.toInt (hx _)).trans hi
    · show 0 ≤ (x0 _).toInt
      rw [hx, hi]; omega
  · rw [logit_of_ge (by omega)]; exact bot_ne_top

end Cert.PreLogits

end
-- ==== Proof.KernelIdealBlocks.lean ====
/-
  The blocks the pipeline stages, read at an index off the argument arrays, and the output array read off the blocks
  written back. The weights', the bias's and the output's last block overhang the array: only the part inside it is
  transferred, and only that part is stated here.
-/
module

public import proofs.«01_k».proof.Proof.KernelIdealSound
public import Idealize.ShloMosaic.Lib.Pipeline.ArrRel
public import Idealize.ShloMosaic.Lib.Pointwise
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (RDat)

variable {F : FTy → Type} [FloatOps F] [∀ e, Nonempty (Elt F e)]

variable {m : (ℓ : Loc nD τ sig) → Buf (Elt F) ℓ} {hO : ok0 (tbl m)} {I : Inv F} {Out : ℕ → (S1x32768.Idx → Elt F .f32) → Prop}

/-! ## The index maps -/

theorem trans1_eq : ∀ t : Fin grid0.N, cc0_transform_1 (grid0.coords t) = ![min t.val 30, 0] := by decide +kernel
theorem trans2_eq : ∀ t : Fin grid0.N, cc0_transform_2 (grid0.coords t) = ![0, min t.val 30] := by decide +kernel
theorem trans3_eq : ∀ t : Fin grid0.N, cc0_transform_3 (grid0.coords t) = ![0, t.val - 31] := by decide +kernel

/-- A coordinate of a block is transferred if it lies inside the array. -/
theorem lt_extent {ix k d j : ℕ} (hj : j < k) (h : ix * k + j < d) : j < (Pipeline.Clip.of ix k d).extent k := by
  unfold Pipeline.Clip.of
  split
  · exact hj
  · show j < d - ix * k; omega

/-- A filled buffer at an index the transfer reaches. -/
theorem fill_of_lt {sig : RefSig} {G : Pipeline.Grid} (w : Pipeline.Window sig G) {α : Type} (i : G.Coords) (d : w.block.Idx → α)
    (g : (w.xblock i).Idx → α) (j : w.block.Idx) (h : ∀ a, (j a).val < w.xsize i a) : w.fill i d g j = g fun a => ⟨(j a).val, h a⟩ := by
  unfold Pipeline.Window.fill
  rw [dif_pos ((w.moved_iff i j).mpr h)]

/-! ## The staged blocks -/

/-- The staged block of the table: the eight rows around the word's. -/
theorem fetched_table (c : Dev nD) (n : ℕ) (hn : n < 1000000) (hw : word (tbl m) = BitVec.ofNat 32 n) (t : Fin grid0.N)
    (d : S8x64.Idx → Elt F .f32) (r : Fin 8) (k : Fin 64) (h : 8 * (n / 8) + r.val < 1000000) :
    (rdat m hO I Out c).fetched 0 t d (ix2 r k) = m ((c : Thread nD τ).loc main_arg1) (ix2 ⟨8 * (n / 8) + r.val, h⟩ k) := by
  have e := trans0_eq (tbl m) (grid0.coords t) n (by omega) hw
  refine (fill_of_lt ((Pipeline.pin pcfgs (fun _ => adm m hO) 0).win 0) _ d _ (ix2 r k) ?_).trans ?_
  · intro a; exact (ix2 r k a).isLt
  · refine congrArg (m ((c : Thread nD τ).loc main_arg1)) (funext fun a => Fin.ext ?_)
    refine (ValueKit.view_emb_slice_whole_unit_val main_arg1 _ _ _ _ a).trans ?_
    show cc0_transform_0 inb_S1_S1_0 numel1_S1 (tbl m) (grid0.coords t) a * S8x64.size a + _ = _
    refine (congrArg (fun ix : Fin 2 → ℕ => ix a * S8x64.size a + (ix2 r k a).val) e).trans ?_
    fin_cases a
    · show n / 8 * 8 + r.val = 8 * (n / 8) + r.val; omega
    · show 0 * 64 + k.val = k.val; omega

/-- The staged block of the weights, on the rows inside the array. -/
theorem fetched_weights (c : Dev nD) (t : Fin grid0.N) (ht : t.val < 31)
    (d : S32768x64.Idx → Elt F .f32) (r : Fin 32768) (k : Fin 64) (h : 32768 * t.val + r.val < 1000000) :
    (rdat m hO I Out c).fetched 1 t d (ix2 r k) = m ((c : Thread nD τ).loc main_arg2) (ix2 ⟨32768 * t.val + r.val, h⟩ k) := by
  have e := trans1_eq t
  refine (fill_of_lt ((Pipeline.pin pcfgs (fun _ => adm m hO) 0).win 1) _ d _ (ix2 r k) ?_).trans ?_
  · intro a
    show _ < (Pipeline.Clip.of (cc0_transform_1 (grid0.coords t) a) (S32768x64.size a) (S1000000x64.size a)).extent (S32768x64.size a)
    refine lt_extent (ix2 r k a).isLt ?_
    refine (congrArg (fun ix : Fin 2 → ℕ => ix a * S32768x64.size a + (ix2 r k a).val) e).trans_lt ?_
    fin_cases a
    · show min t.val 30 * 32768 + r.val < 1000000; omega
    · show 0 * 64 + k.val < 64; omega
  · refine congrArg (m ((c : Thread nD τ).loc main_arg2)) (funext fun a => Fin.ext ?_)
    refine (ValueKit.view_emb_slice_whole_unit_val main_arg2 _ _ _ _ a).trans ?_
    show cc0_transform_1 (grid0.coords t) a * S32768x64.size a + _ = _
    refine (congrArg (fun ix : Fin 2 → ℕ => ix a * S32768x64.size a + (ix2 r k a).val) e).trans ?_
    fin_cases a
    · show min t.val 30 * 32768 + r.val = 32768 * t.val + r.val; omega
    · show 0 * 64 + k.val = k.val; omega

/-- The reshape to one row, read at a column. -/
theorem reshape_row {α : Type} (b : S1000000.Idx → α) (v : Fin 1000000) :
    shapeCast S1x1000000 b shapeCasts_S1000000_S1x1000000 (ix2 0 v) = b (ix1 v) := by
  pointwise

/-- The bias as the region finds it: one row. -/
theorem V_bias (c : Dev nD) (v : Fin 1000000) : V m c main_v0 (ix2 0 v) = m ((c : Thread nD τ).loc main_arg3) (ix1 v) := by
  have e : V m c main_v0 = shapeCast S1x1000000 (m ((c : Thread nD τ).loc main_arg3)) shapeCasts_S1000000_S1x1000000 := rfl
  exact (congrFun e _).trans (reshape_row _ v)

/-- The staged block of the bias, on the columns inside the array. -/
theorem fetched_bias (c : Dev nD) (t : Fin grid0.N) (ht : t.val < 31)
    (d : S1x32768.Idx → Elt F .f32) (r : Fin 32768) (h : 32768 * t.val + r.val < 1000000) :
    (rdat m hO I Out c).fetched 2 t d (ix2 0 r) = m ((c : Thread nD τ).loc main_arg3) (ix1 ⟨32768 * t.val + r.val, h⟩) := by
  have e := trans2_eq t
  refine (fill_of_lt ((Pipeline.pin pcfgs (fun _ => adm m hO) 0).win 2) _ d _ (ix2 0 r) ?_).trans ?_
  · intro a
    show _ < (Pipeline.Clip.of (cc0_transform_2 (grid0.coords t) a) (S1x32768.size a) (S1x1000000.size a)).extent (S1x32768.size a)
    refine lt_extent (ix2 (0 : Fin 1) r a).isLt ?_
    refine (congrArg (fun ix : Fin 2 → ℕ => ix a * S1x32768.size a + (ix2 (0 : Fin 1) r a).val) e).trans_lt ?_
    fin_cases a
    · show 0 * 1 + 0 < 1; omega
    · show min t.val 30 * 32768 + r.val < 1000000; omega
  · refine Eq.trans (congrArg (V m c main_v0) (funext fun a => Fin.ext ?_)) (V_bias c _)
    refine (ValueKit.view_emb_slice_whole_unit_val main_v0 _ _ _ _ a).trans ?_
    show cc0_transform_2 (grid0.coords t) a * S1x32768.size a + _ = _
    refine (congrArg (fun ix : Fin 2 → ℕ => ix a * S1x32768.size a + (ix2 (0 : Fin 1) r a).val) e).trans ?_
    fin_cases a
    · show 0 * 1 + 0 = 0; omega
    · show min t.val 30 * 32768 + r.val = 32768 * t.val + r.val; omega

/-! ## The output array -/

/-- The output's block is written back at the points of the second pass and at no other. -/
theorem flush_out (t : Fin grid0.N) :
    ((Pipeline.pin pcfgs (fun _ => adm m hO) 0).win 3).flush t = true ↔ 31 ≤ t.val := by
  have hd : ∀ t : Fin grid0.N, (true && (decide (t.val + 1 = grid0.N) || decide (∃ h : t.val + 1 < grid0.N,
      cc0_transform_3 (grid0.coords ⟨t.val + 1, h⟩) ≠ cc0_transform_3 (grid0.coords t)))) = decide (31 ≤ t.val) := by decide +kernel
  have : ((Pipeline.pin pcfgs (fun _ => adm m hO) 0).win 3).flush t = decide (31 ≤ t.val) := hd t
  rw [this, decide_eq_true_iff]

/-- What the run leaves in the output array: at each column the block of the second pass that holds the column, as the
    proof data say of it. -/
theorem out_eq {r : PUnit × MemSt nD τ sig (Elt F)}
    (h : RDat.FramePost (Pipeline.pin pcfgs (fun _ => adm m hO) 0) (rdat m hO I Out) (V m) r) (c : Dev nD) (g : ℕ → Elt F .f32)
    (hout : ∀ (t : ℕ) X, 31 ≤ t → t < 62 → Out t X → ∀ j : Fin 32768, 32768 * (t - 31) + j.val < 1000000 →
      X (ix2 0 j) = g (32768 * (t - 31) + j.val)) (v : Fin 1000000) :
    r.2.mem ((c : Thread nD τ).loc main_v1) (ix2 0 v) = g v.val := by
  obtain ⟨after, hL, hA⟩ := h.exists_exact c
  have e : r.2.mem ((c : Thread nD τ).loc main_v1) = ((rdat m hO I Out c).withAfter after).arrAt 3 _ := hA 3
  rw [e]
  refine ((rdat m hO I Out c).withAfter after).arrAt_forall_of_cover 3 (fun (i : S1x1000000.Idx) (x : Elt F .f32) => x = g (i 1).val) ?_ ?_ (ix2 0 v)
  · intro t hf y
    have ht := (flush_out t).mp hf
    obtain ⟨Y, -, hY⟩ := hL 3 t hf
    have hN : t.val < 62 := t.isLt.trans_eq N_0
    have e3 := trans3_eq t
    have hj : (y (1 : Fin 2)).val < 32768 :=
      lt_of_lt_of_le (y (1 : Fin 2)).isLt (((Pipeline.pin pcfgs (fun _ => adm m hO) 0).win 3).xsize_le (grid0.coords t) (1 : Fin 2))
    have hx : ((Pipeline.pin pcfgs (fun _ => adm m hO) 0).win 3).xinj (grid0.coords t) y
        = (ix2 (0 : Fin 1) ⟨(y (1 : Fin 2)).val, hj⟩ : S1x32768.Idx) := by
      funext a
      fin_cases a
      · exact Subsingleton.elim (α := Fin 1) _ _
      · rfl
    have hv : ((((Pipeline.pin pcfgs (fun _ => adm m hO) 0).win 3).blk t).view.emb y (1 : Fin 2)).val = 32768 * (t.val - 31) + (y (1 : Fin 2)).val := by
      refine (ValueKit.view_emb_slice_whole_unit_val main_v1 _ _ _ y (1 : Fin 2)).trans ?_
      show cc0_transform_3 (grid0.coords t) 1 * 32768 + _ = _
      rw [congrFun e3 1]
      show (t.val - 31) * 32768 + _ = _
      omega
    have hlt : 32768 * (t.val - 31) + (y (1 : Fin 2)).val < 1000000 := by
      rw [← hv]; exact (((((Pipeline.pin pcfgs (fun _ => adm m hO) 0).win 3).blk t).view.emb y) (1 : Fin 2)).isLt
    refine Eq.trans ?_ (congrArg g hv).symm
    refine Eq.trans ?_ (hout t.val (after 3 t) ht hN hY ⟨(y (1 : Fin 2)).val, hj⟩ hlt)
    exact congrArg (after 3 t) hx
  · intro i
    have hi : (i (1 : Fin 2)).val < 1000000 := (i (1 : Fin 2)).isLt
    have hi0 : (i (0 : Fin 2)).val < 1 := (i (0 : Fin 2)).isLt
    have hN : 31 + (i (1 : Fin 2)).val / 32768 < grid0.N := by rw [N_0]; omega
    refine ⟨⟨31 + (i (1 : Fin 2)).val / 32768, hN⟩, (flush_out _).mpr (Nat.le_add_right _ _), ?_⟩
    have e3 := trans3_eq ⟨31 + (i (1 : Fin 2)).val / 32768, hN⟩
    refine (((Pipeline.pin pcfgs (fun _ => adm m hO) 0).win 3).emb_mem_blk_iff _ i).mpr fun a => ?_
    show cc0_transform_3 (grid0.coords _) a * S1x32768.size a ≤ (i a).val ∧ (i a).val < cc0_transform_3 (grid0.coords _) a * S1x32768.size a
      + (Pipeline.Clip.of (cc0_transform_3 (grid0.coords _) a) (S1x32768.size a) (S1x1000000.size a)).extent (S1x32768.size a)
    rw [e3]
    fin_cases a
    · have := lt_extent (ix := 0) (k := 1) (d := 1) (j := 0) (by omega) (by omega)
      refine ⟨?_, ?_⟩
      · show 0 * 1 ≤ _; omega
      · show (i (0 : Fin 2)).val < 0 * 1 + (Pipeline.Clip.of 0 1 1).extent 1; omega
    · have := lt_extent (ix := 31 + (i (1 : Fin 2)).val / 32768 - 31) (k := 32768) (d := 1000000) (j := (i (1 : Fin 2)).val % 32768) (by omega) (by omega)
      refine ⟨?_, ?_⟩
      · show (31 + (i (1 : Fin 2)).val / 32768 - 31) * 32768 ≤ (i (1 : Fin 2)).val; omega
      · show (i (1 : Fin 2)).val < (31 + (i (1 : Fin 2)).val / 32768 - 31) * 32768
          + (Pipeline.Clip.of (31 + (i (1 : Fin 2)).val / 32768 - 31) 32768 1000000).extent 32768
        omega

end Cert.KernelIdeal.Hand

end
-- ==== Proof.KernelIdealPay.lean ====
/-
  The body's arithmetic read at an index, over the extended reals: the block of logits as sums of products plus the bias,
  the masked block, the running maximum, the running sum, and the block written back.
-/
module

public import proofs.«01_k».proof.Proof.KernelIdealRun
public import proofs.«01_k».proof.Proof.LogSum
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen
open Idealize.ShloMosaic

/-- The pattern of minus infinity. -/
theorem ofBits_neg_inf : Ideal.ofBits .f32 0xFF800000#32 = ⊥ := by simp [Ideal.ofBits, Ideal.ieee]

/-- The mask's compare: the column's number against the vocabulary's size. -/
theorem col_lt {α : Type} (t : ℕ) (ht : t < 31) (j : Fin 32768) (x y : α) :
    Scalar.select (IntOp.cmpi CmpIPredicate.slt (IntOp.addi (Scalar.muli (BitVec.ofNat 32 t) 32768#32) (BitVec.ofNat 32 j.val)) 1000000#32) x y
      = if 32768 * t + j.val < 1000000 then x else y := by
  have hj := j.isLt
  have e : IntOp.addi (Scalar.muli (BitVec.ofNat 32 t) 32768#32) (BitVec.ofNat 32 j.val) = BitVec.ofNat 32 (32768 * t + j.val) := by
    show BitVec.ofNat 32 t * BitVec.ofNat 32 32768 + BitVec.ofNat 32 j.val = _
    rw [← BitVec.ofNat_mul, ← BitVec.ofNat_add, Nat.mul_comm]
  have hi : (BitVec.ofNat 32 (32768 * t + j.val)).toInt = ((32768 * t + j.val : ℕ) : ℤ) := by
    rw [BitVec.toInt_eq_toNat_of_lt (by rw [BitVec.toNat_ofNat]; omega), BitVec.toNat_ofNat]; omega
  rw [e]
  show (if BitVec.ofBool ((BitVec.ofNat 32 (32768 * t + j.val)).slt 1000000#32) = 1 then x else y) = _
  rw [BitVec.slt, hi, show (1000000#32 : BitVec 32).toInt = 1000000 from rfl]
  by_cases h : 32768 * t + j.val < 1000000
  · rw [if_pos h, show decide (((32768 * t + j.val : ℕ) : ℤ) < 1000000) = true from decide_eq_true (by omega)]; rfl
  · rw [if_neg h, show decide (((32768 * t + j.val : ℕ) : ℤ) < 1000000) = false from decide_eq_false (by omega)]; rfl

theorem pay6_apply (e : S1x64.Idx → EReal) (W : S32768x64.Idx → EReal) (b : S1x32768.Idx → EReal) (j : Fin 32768) :
    k0_pay6 (F := Ideal) e W b (ix2 0 j) = (∑ k : Fin 64, e (ix2 0 k) * W (ix2 j k)) + b (ix2 0 j) := by
  pointwise [k0_pay6]

theorem pay7_apply (e : S1x64.Idx → EReal) (W : S32768x64.Idx → EReal) (b : S1x32768.Idx → EReal) (j : Fin 32768) :
    k0_pay7 (F := Ideal) e W b (ix2 0 j) = (∑ k : Fin 64, e (ix2 0 k) * W (ix2 j k)) + b (ix2 0 j) := by
  pointwise [k0_pay7, k0_pay6]

theorem pay1_apply (j : S1x1.Idx) : k0_pay1 (F := Ideal) j = (⊥ : EReal) := by
  pointwise [k0_pay1]
  exact ofBits_neg_inf

theorem pay2_apply (j : S1x1.Idx) : k0_pay2 (F := Ideal) j = (0 : EReal) := by
  pointwise [k0_pay2]

theorem pay5_apply (M S : S1x1.Idx → EReal) (z : S1x32768.Idx → EReal) (j : Fin 32768) :
    k0_pay5 (F := Ideal) M S z (ix2 0 j) = z (ix2 0 j) - (M (ix2 0 0) + Ideal.log (S (ix2 0 0))) := by
  pointwise [k0_pay5]

theorem pay8_apply (t : ℕ) (ht : t < 31) (e : S1x64.Idx → EReal) (W : S32768x64.Idx → EReal) (b : S1x32768.Idx → EReal) (j : Fin 32768) :
    k0_pay8 (F := Ideal) (BitVec.ofNat 32 t) e W b (ix2 0 j)
      = if 32768 * t + j.val < 1000000 then k0_pay6 (F := Ideal) e W b (ix2 0 j) else (⊥ : EReal) := by
  pointwise [k0_pay8]
  rw [ofBits_neg_inf, col_lt t ht j]

theorem pay9_apply (a : BitVec 32) (e : S1x64.Idx → EReal) (W : S32768x64.Idx → EReal) (b : S1x32768.Idx → EReal) (M : S1x1.Idx → EReal) :
    k0_pay9 (F := Ideal) a e W b M (ix2 0 0)
      = max (M (ix2 0 0)) (Finset.univ.sup fun j : Fin 32768 => (k0_pay8 (F := Ideal) a e W b (ix2 0 j) : EReal)) := by
  pointwise [k0_pay9]
  rw [ofBits_neg_inf]
  rfl

theorem pay3_apply (z : S1x32768.Idx → EReal) (M' S M : S1x1.Idx → EReal) :
    k0_pay3 (F := Ideal) z M' S M (ix2 0 0)
      = S (ix2 0 0) * Ideal.exp (M (ix2 0 0) - M' (ix2 0 0)) + ∑ j : Fin 32768, Ideal.exp (z (ix2 0 j) - M' (ix2 0 0)) := by
  pointwise [k0_pay3]

theorem pay4_eq (M : S1x1.Idx → EReal) : k0_pay4 (F := Ideal) M = M := by
  funext j
  obtain rfl : j = ix2 0 0 := funext fun a => by fin_cases a <;> exact Subsingleton.elim (α := Fin 1) _ _
  pointwise [k0_pay4]

end Cert.KernelIdeal.Hand

end
-- ==== Proof.KernelIdealValue.lean ====
/-
  The kernel's result over the extended reals: the first pass keeps the logits seen so far with their running maximum and
  running sum of shifted exponentials, the second writes each logit minus the maximum plus the logarithm of the sum.
-/
module

public import proofs.«01_k».proof.Proof.KernelIdealBlocks
public import proofs.«01_k».proof.Proof.KernelIdealPay
public import proofs.«01_k».proof.Proof.Logits

@[expose] public section

set_option maxRecDepth 16384

noncomputable section

namespace Cert.KernelIdeal.Hand

open Cert.KernelIdeal Cert.KernelIdeal.Gen Cert.LogSum Cert.Logits
open Idealize.ShloMosaic Idealize.ShloMosaic.TcCoe
open Idealize.SL.Sem
open Idealize.ShloMosaic.Pipeline (RDat)

/-! ## The invariant of the scratch buffers -/

/-- Before point `t` the logits of the first `min t 31` blocks are stored, with their maximum and sum once there is a block. -/
def Seen (f : ℕ → EReal) : Inv Ideal := fun t Z M S =>
  (∀ v (h : v < 1015808), v < 1000000 → v < 32768 * min t 31 → Z (ix2 0 ⟨v, h⟩) = f v)
    ∧ (0 < t → M (ix2 0 0) = mx f (32768 * min t 31) ∧ S (ix2 0 0) = sm f (32768 * min t 31))

/-- A point of the second pass leaves the log-probabilities of its block's columns inside the vocabulary. -/
def Done (f : ℕ → EReal) (t : ℕ) (X : S1x32768.Idx → EReal) : Prop :=
  31 ≤ t → ∀ j : Fin 32768, 32768 * (t - 31) + j.val < 1000000 → X (ix2 0 j) = logSoftmax f (32768 * (t - 31) + j.val)

/-- One point of the first pass: a block of logits is stored, and the maximum and the sum are carried over it. -/
theorem seen_step {f : ℕ → EReal} (hf : ∀ v, f v ≠ ⊤) (hb : ∀ v, 1000000 ≤ v → f v = ⊥) (t : ℕ) (ht : t < 31)
    (e : S1x64.Idx → EReal) (W : S32768x64.Idx → EReal) (b : S1x32768.Idx → EReal)
    (hl : ∀ j : Fin 32768, 32768 * t + j.val < 1000000 → k0_pay7 (F := Ideal) e W b (ix2 0 j) = f (32768 * t + j.val))
    (Z : S1x1015808.Idx → EReal) (M S : S1x1.Idx → EReal) (hI : Seen f t Z M S)
    (M₀ S₀ : S1x1.Idx → EReal) (hM : M₀ = if t = 0 then k0_pay1 (F := Ideal) else M) (hS : S₀ = if t = 0 then k0_pay2 (F := Ideal) else S) :
    Seen f (t + 1) (zNext (F := Ideal) t (k0_pay7 (F := Ideal) e W b) Z)
      (k0_pay4 (F := Ideal) (k0_pay9 (F := Ideal) (BitVec.ofNat 32 t) e W b M₀))
      (k0_pay3 (F := Ideal) (k0_pay8 (F := Ideal) (BitVec.ofNat 32 t) e W b) (k0_pay9 (F := Ideal) (BitVec.ofNat 32 t) e W b M₀) S₀ M₀) := by
  obtain ⟨hZ, hMS⟩ := hI
  have hm1 : min t 31 = t := by omega
  have hm2 : min (t + 1) 31 = t + 1 := by omega
  have hM0 : M₀ (ix2 0 0) = mx f (32768 * t) := by
    rw [hM]
    by_cases h0 : t = 0
    · rw [if_pos h0, pay1_apply, h0]; exact (mx_zero _).symm
    · rw [if_neg h0, (hMS (by omega)).1, hm1]
  have hS0 : S₀ (ix2 0 0) = sm f (32768 * t) := by
    rw [hS]
    by_cases h0 : t = 0
    · rw [if_pos h0, pay2_apply, h0]; exact (sm_zero _).symm
    · rw [if_neg h0, (hMS (by omega)).2, hm1]
  have hg : ∀ j : Fin 32768, k0_pay8 (F := Ideal) (BitVec.ofNat 32 t) e W b (ix2 0 j) = f (32768 * t + j.val) := by
    intro j
    rw [pay8_apply t ht]
    by_cases h : 32768 * t + j.val < 1000000
    · rw [if_pos h]; exact ((pay6_apply e W b j).trans (pay7_apply e W b j).symm).trans (hl j h)
    · rw [if_neg h, hb _ (by omega)]
  have hM1 : k0_pay9 (F := Ideal) (BitVec.ofNat 32 t) e W b M₀ (ix2 0 0) = mx f (32768 * (t + 1)) := by
    rw [pay9_apply, hM0]
    exact mx_add f (32768 * t) 32768 _ hg
  refine ⟨fun v h hv hlt => ?_, fun _ => ⟨?_, ?_⟩⟩
  · rw [hm2] at hlt
    unfold zNext
    by_cases hc : 32768 * t ≤ v
    · rw [dif_pos (show 32768 * t ≤ ((ix2 (0 : Fin 1) (⟨v, h⟩ : Fin 1015808) : S1x1015808.Idx) 1).val ∧ _ from ⟨hc, by show v < _; omega⟩)]
      refine (hl ⟨v - 32768 * t, by omega⟩ ?_).trans (congrArg f ?_)
      · show 32768 * t + (v - 32768 * t) < 1000000; omega
      · show 32768 * t + (v - 32768 * t) = v; omega
    · rw [dif_neg (fun h' => hc h'.1)]
      exact hZ v h hv (by omega)
  · rw [pay4_eq, hM1, hm2]
  · rw [pay3_apply, hM1, hM0, hS0, hm2]
    exact sm_add hf (32768 * t) 32768 _ hg

/-- One point of the second pass: nothing is changed, and the block written holds its log-probabilities. -/
theorem seen_late {f : ℕ → EReal} (hf : ∀ v, f v ≠ ⊤) (hb : ∀ v, 1000000 ≤ v → f v = ⊥) (t : ℕ) (ht : 31 ≤ t) (h31 : t - 31 < 31)
    (Z : S1x1015808.Idx → EReal) (M S : S1x1.Idx → EReal) (hI : Seen f t Z M S) :
    Seen f (t + 1) Z M S ∧ Done f t (k0_pay5 (F := Ideal) M S (zBlock (F := Ideal) (t - 31) h31 Z)) := by
  have hm1 : min t 31 = 31 := by omega
  have hm2 : min (t + 1) 31 = 31 := by omega
  unfold Seen at hI ⊢
  rw [hm1] at hI
  rw [hm2]
  refine ⟨⟨hI.1, fun _ => hI.2 (by omega)⟩, fun _ j hj => ?_⟩
  have hz : zBlock (F := Ideal) (t - 31) h31 Z (ix2 0 j) = f (32768 * (t - 31) + j.val) :=
    hI.1 (32768 * (t - 31) + j.val) (by omega) hj (by have := j.isLt; omega)
  rw [pay5_apply, (hI.2 (by omega)).1, (hI.2 (by omega)).2, hz, mx_tail (n := 1000000) (by omega) hb, sm_tail (n := 1000000) (by omega) hb]
  exact sub_add_eq (le_mx f hj) (mx_ne_top hf _)

/-! ## The invariant along the body -/

variable {m : (ℓ : Loc nD τ sig) → Buf (Elt Ideal) ℓ}

/-- The logits of the row that the table's word names, off the launch memory. -/
abbrev logits (m : (ℓ : Loc nD τ sig) → Buf (Elt Ideal) ℓ) (c : Dev nD) (n : Fin 1000000) : ℕ → EReal :=
  logit (m ((c : Thread nD τ).loc main_arg1)) (m ((c : Thread nD τ).loc main_arg2)) (m ((c : Thread nD τ).loc main_arg3)) n

theorem keeps (hO : ok0 (tbl m)) (c : Dev nD) (n : Fin 1000000) (hw : word (tbl m) = BitVec.ofNat 32 n.val)
    (hf : ∀ v, logits m c n v ≠ ⊤) : Keeps m hO (Seen (logits m c n)) (Done (logits m c n)) c n.val where
  zero Z M S := ⟨fun v h hv hlt => absurd hlt (by omega), fun h => absurd h (by omega)⟩
  free t ht X h := absurd h (by omega)
  late t ht h31 Z M S hI := seen_late hf (fun v hv => logit_of_ge hv) t ht h31 Z M S hI
  fold t Y0 Y1 Y2 Z M S h0 h1 h2 ht hI := by
    obtain ⟨d0, rfl⟩ := h0
    obtain ⟨d1, rfl⟩ := h1
    obtain ⟨d2, rfl⟩ := h2
    refine seen_step hf (fun v hv => logit_of_ge hv) t.val ht _ _ _ ?_ Z M S hI _ _ rfl rfl
    intro j hj
    refine (pay7_apply _ _ _ j).trans (Eq.trans ?_ (logit_of_lt hj).symm)
    refine congrArg₂ (fun a b : EReal => a + b) (Finset.sum_congr rfl fun k _ => congrArg₂ (fun a b : EReal => a * b) ?_ ?_) ?_
    · have hn := n.isLt
      have hr : 8 * (n.val / 8) + n.val % 8 = n.val := by omega
      refine (fetched_table c n.val hn hw t d0 ⟨n.val % 8, by omega⟩ k (by show 8 * (n.val / 8) + n.val % 8 < 1000000; omega)).trans ?_
      exact congrArg (fun r : Fin 1000000 => m ((c : Thread nD τ).loc main_arg1) (ix2 r k)) (Fin.ext hr)
    · exact fetched_weights c t ht d1 j k hj
    · exact fetched_bias c t ht d2 j hj

/-! ## The run -/

/-- From any launch memory whose table word is `n` and whose logits stay below plus infinity, every run of the kernel ends with
    the log-probabilities in the output array, the arguments as they were and every counter at zero. -/
theorem run_value (ρ : Dev nD → PrngReg) (n : Fin 1000000) (hw : word (tbl m) = BitVec.ofNat 32 n.val)
    (hf : ∀ c v, logits m c n v ≠ ⊤) :
    θ_run defs (onTc (τ := τ) (main (F := Ideal))) (s₀ m ρ)
      (fun r => (∀ c : Dev nD, (∀ v : Fin 1000000, r.2.mem ((c : Thread nD τ).loc main_v1) (ix2 0 v) = logSoftmax (logits m c n) v.val)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) := by
  refine (θ_run defs _ _).mono (fun r h => ⟨fun c => ?_, h.2⟩)
    (run_main (hO := ok_of_lt (tbl m) n.val n.isLt hw) (I := Seen (logits m 0 n)) (Out := Done (logits m 0 n)) ρ n.val n.isLt hw fun c => ?_)
  · obtain rfl : c = 0 := Subsingleton.elim _ _
    exact ⟨out_eq h.1 0 (logSoftmax (logits m 0 n)) fun t X ht _ hX j hj => hX ht j hj, args_kept h.1 0⟩
  · obtain rfl : c = 0 := Subsingleton.elim _ _
    exact keeps _ 0 n hw (hf 0)

end Cert.KernelIdeal.Hand

end
-- ==== Proof.ReferenceValue.lean ====
/-
  The reference's result over the extended reals: the row its `take` picks for a word in range, and then the logarithm of
  the softmax of the logits.
-/
module

public import proofs.«01_k».proof.Proof.Logits
public import proofs.«01_k».proof.Proof.Gen.ReferenceIdeal.Read
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Read
open Idealize.ShloMosaic
open Cert.LogSum Cert.Logits

theorem toInt_small (n : Fin 1000000) : (BitVec.ofNat 32 n.val).toInt = n.val := by
  have := n.isLt
  rw [BitVec.toInt_eq_toNat_of_lt (by rw [BitVec.toNat_ofNat]; omega), BitVec.toNat_ofNat]; omega

section
variable {x0 : S1.Idx → BitVec 32} {n : Fin 1000000}

/-- A word in range is not wrapped. -/
theorem v4_eq (h : ∀ i, x0 i = BitVec.ofNat 32 n.val) (i : S1.Idx) : val_main_call0_v4 (F := Ideal) x0 i = BitVec.ofNat 32 n.val := by
  rw [val_main_call0_v4_apply, val_main_call0_v1_apply, val_main_call0_v0_apply, val_main_call0_c_apply, h i]
  have : IntOp.cmpi .slt (BitVec.ofNat 32 n.val) 0#32 = 0#1 := by
    show BitVec.ofBool ((BitVec.ofNat 32 n.val).slt 0#32) = _
    rw [BitVec.slt, toInt_small, show decide ((n.val : ℤ) < (0#32).toInt) = false from decide_eq_false (by rw [show (0#32).toInt = 0 from rfl]; omega)]
    rfl
  rw [this]; rfl

theorem v5_eq (h : ∀ i, x0 i = BitVec.ofNat 32 n.val) (i : S1x1.Idx) : val_main_call0_v5 (F := Ideal) x0 i = BitVec.ofNat 32 n.val := by
  rw [val_main_call0_v5_apply, v4_eq h]

/-- It passes the range check. -/
theorem v10_eq (h : ∀ i, x0 i = BitVec.ofNat 32 n.val) (i : S1x1.Idx) : val_main_call0_v10 (F := Ideal) x0 i = 1#1 := by
  have hn := n.isLt
  rw [val_main_call0_v10_apply, val_main_call0_v7_apply, val_main_call0_v9_apply, v5_eq h, val_main_call0_v6_apply, val_main_call0_c_2_apply,
    val_main_call0_v8_apply, val_main_call0_c_1_apply]
  have h1 : IntOp.cmpi .sge (BitVec.ofNat 32 n.val) 0#32 = 1#1 := by
    show BitVec.ofBool ((0#32).sle (BitVec.ofNat 32 n.val)) = _
    rw [BitVec.sle, toInt_small, show decide ((0#32).toInt ≤ (n.val : ℤ)) = true from decide_eq_true (by rw [show (0#32).toInt = 0 from rfl]; omega)]
    rfl
  have h2 : IntOp.cmpi .sle (BitVec.ofNat 32 n.val) 999999#32 = 1#1 := by
    show BitVec.ofBool ((BitVec.ofNat 32 n.val).sle 999999#32) = _
    rw [BitVec.sle, toInt_small, show decide ((n.val : ℤ) ≤ (999999#32).toInt) = true from decide_eq_true (by rw [show (999999#32).toInt = 999999 from rfl]; omega)]
    rfl
  rw [h1, h2]; rfl

theorem fold_and_one {ι : Type} (s : Finset ι) : s.fold IntOp.andi (1#1 : BitVec 1) (fun _ => 1#1) = 1#1 := by
  classical
  induction s using Finset.induction_on with
  | empty => rfl
  | insert a s ha ih => rw [Finset.fold_insert ha, ih]; rfl

theorem v11_eq (h : ∀ i, x0 i = BitVec.ofNat 32 n.val) (i : S1.Idx) : val_main_call0_v11 (F := Ideal) x0 i = 1#1 := by
  unfold val_main_call0_v11
  rw [show val_main_call0_v10 (F := Ideal) x0 = fun _ => 1#1 from funext (v10_eq h), show val_main_call0_c_3 (F := Ideal) = fun _ => 1#1 from rfl]
  exact (Host.reduce_eq_fold (α := BitVec 1) IntOp.andi (fun _ => 1#1) (fun _ => 1#1) reducesTo_S1x1_S1_d1 h_S_ i).trans (fold_and_one _)

/-- The gather's read: row `n`. -/
theorem v12_eq (h : ∀ i, x0 i = BitVec.ofNat 32 n.val) (x1 : S1000000x64.Idx → EReal) (k : Fin 64) :
    val_main_call0_v12 (F := Ideal) x0 x1 (ix2 0 k) = x1 (ix2 n k) := by
  unfold val_main_call0_v12 Host.gather
  refine congrArg x1 (funext fun a => Fin.ext ?_)
  set G := gather_S1000000x64_S1x1_S1x64_1_0_n_n_0_1_164
  show G.start (ix2 0 k) (val_main_call0_v5 (F := Ideal) x0) a + G.batchCoord (ix2 0 k) a + G.offCoord (ix2 0 k) a = _
  rw [show val_main_call0_v5 (F := Ideal) x0 = fun _ => BitVec.ofNat 32 n.val from funext (v5_eq h),
    GatherDims.batchCoord_eq_zero _ _ _ List.not_mem_nil, Nat.add_zero]
  have hn := n.isLt
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ G.startIndexMap from List.mem_singleton.mpr rfl)]
    show min (BitVec.ofNat 32 n.val).toInt.toNat (1000000 - 1) = n.val
    rw [toInt_small]; omega
  · unfold GatherDims.start
    rw [dif_neg (show ¬ (1 : Fin 2) ∈ G.startIndexMap by decide)]
    show 0 + G.offCoord (ix2 0 k) 1 = k.val
    rw [Nat.zero_add]
    rfl

/-- The row `take` gives. -/
theorem v0_eq (h : ∀ i, x0 i = BitVec.ofNat 32 n.val) (x1 : S1000000x64.Idx → EReal) (k : Fin 64) :
    val_main_v0 (F := Ideal) x0 x1 (ix2 0 k) = x1 (ix2 n k) := by
  rw [val_main_v0_apply, val_main_call0_v13_apply, v11_eq h, v12_eq h]; rfl

variable (h : ∀ i, x0 i = BitVec.ofNat 32 n.val) (x1 x2 : S1000000x64.Idx → EReal) (x3 : S1000000.Idx → EReal)

include h in
/-- The reference's logits. -/
theorem v4_logit (v : Fin 1000000) : val_main_v4 (F := Ideal) x0 x1 x2 x3 (ix2 0 v) = logit x1 x2 x3 n v.val := by
  rw [val_main_v4_apply, val_main_v2_apply, val_main_v3_apply, logit_of_lt v.isLt]
  refine congrArg₂ (fun a b : EReal => a + b) (Finset.sum_congr rfl fun k _ => congrArg₂ (fun a b : EReal => a * b) ?_ ?_) ?_
  · refine Eq.trans (congrArg _ ?_) (v0_eq h x1 k)
    funext a; fin_cases a <;> rfl
  · rw [val_main_v1_apply]
    refine congrArg x2 (funext fun a => ?_); fin_cases a <;> rfl
  · refine congrArg x3 (funext fun a => ?_); fin_cases a; rfl

theorem ofBits_neg_inf : Ideal.ofBits .f32 0xFF800000#32 = ⊥ := by simp [Ideal.ofBits, Ideal.ieee]

include h in
/-- Its row maximum. -/
theorem max_eq (i : S1.Idx) : val_main_call1_v0 (F := Ideal) x0 x1 x2 x3 i = mx (logit x1 x2 x3 n) 1000000 := by
  have e : val_main_v4 (F := Ideal) x0 x1 x2 x3 = fun j => logit x1 x2 x3 n (j 1).val := by
    funext j
    refine Eq.trans (congrArg _ ?_) (v4_logit h x1 x2 x3 (j 1))
    funext a; fin_cases a
    · exact Subsingleton.elim (α := Fin 1) _ _
    · rfl
  unfold val_main_call1_v0
  rw [e]
  obtain rfl : i = ix1 0 := funext fun a => by fin_cases a; exact Subsingleton.elim (α := Fin 1) _ _
  clean_types
  pointwise [val_main_call1_cst]
  rw [ofBits_neg_inf]
  exact sup_range (logit x1 x2 x3 n) 1000000 _ fun k => rfl

include h in
theorem v3_eq (i : S1x1.Idx) : val_main_call1_v3 (F := Ideal) x0 x1 x2 x3 i = mx (logit x1 x2 x3 n) 1000000 := by
  rw [val_main_call1_v3_apply, val_main_call1_v2_apply, max_eq h, val_main_call1_v1_apply, val_main_call1_cst_0_apply]
  show max (Ideal.ofBits .f32 0xFF800000#32) _ = _
  rw [ofBits_neg_inf]
  exact max_eq_right bot_le

include h in
theorem shifted_eq (v : Fin 1000000) : val_main_call1_v5 (F := Ideal) x0 x1 x2 x3 (ix2 0 v)
    = logit x1 x2 x3 n v.val - mx (logit x1 x2 x3 n) 1000000 := by
  rw [val_main_call1_v5_apply, v4_logit h, val_main_call1_v4_apply, v3_eq h]; rfl

include h in
theorem sum_eq (i : S1.Idx) : val_main_call1_v7 (F := Ideal) x0 x1 x2 x3 i = sm (logit x1 x2 x3 n) 1000000 := by
  rw [val_main_call1_v7_apply, val_main_call1_cst_1_apply]
  show Ideal.ofBits .f32 0x00000000#32 + _ = _
  rw [Ideal.ofBits_zero_f32, zero_add]
  refine Eq.trans (Finset.sum_congr rfl fun k _ => ?_) (sum_range (logit x1 x2 x3 n) 1000000 (fun k => logit x1 x2 x3 n k.val) fun _ => rfl)
  rw [val_main_call1_v6_apply]
  refine Eq.trans (congrArg (fun j => FloatOps.hostUnary (F := Ideal) (φ := .f32) .exp (val_main_call1_v5 (F := Ideal) x0 x1 x2 x3 j)) (?_ : _ = ix2 0 k)) ?_
  · funext a; fin_cases a
    · exact Subsingleton.elim (α := Fin 1) _ _
    · rfl
  rw [shifted_eq h]
  rfl

include h in
/-- THE REFERENCE'S RESULT. -/
theorem result_eq (v : Fin 1000000) : val_main_v5 (F := Ideal) x0 x1 x2 x3 (ix2 0 v) = logSoftmax (logit x1 x2 x3 n) v.val := by
  rw [val_main_v5_apply, shifted_eq h, val_main_call1_v10_apply, val_main_call1_v9_apply, val_main_call1_v8_apply, sum_eq h, Ideal.subf_def, Ideal.hostUnary_log_def]
  unfold logSoftmax; rfl

end

end Cert.ReferenceIdeal.Hand

end
-- ==== Proof.Equal.lean ====
/-
  The kernel's result is the reference's, over the extended reals: both are the log-probabilities of the logits of the row that
  the table's word names.
-/
module

public import proofs.«01_k».proof.Proof.KernelIdealValue
public import proofs.«01_k».proof.Proof.ReferenceValue
public import proofs.«01_k».proof.Proof.PreLogits

@[expose] public section

set_option maxRecDepth 16384

noncomputable section

namespace Cert.Equal

open Idealize.ShloMosaic Idealize.ShloMosaic.TcCoe Idealize.SL.Sem Cert.Logits

attribute [local instance] Cert.Pre_logits_below_infinity.Gen.facts Cert.KernelIdeal.Gen.facts Cert.ReferenceIdeal.Gen.facts

/-- The table has one word, so what the kernel reads there is every element of it. -/
theorem arg0_eq (m : (ℓ : Loc Cert.KernelIdeal.nD Cert.KernelIdeal.τ Cert.KernelIdeal.sig) → Buf (Elt Ideal) ℓ) (c : Dev Cert.KernelIdeal.nD)
    (i : Cert.KernelIdeal.S1.Idx) :
    (m ((c.tc : Thread Cert.KernelIdeal.nD Cert.KernelIdeal.τ).loc Cert.KernelIdeal.main_arg0) : IVec Cert.KernelIdeal.S1 32) i
      = Cert.KernelIdeal.Hand.word (Cert.KernelIdeal.Hand.tbl m) := by
  obtain rfl : c = 0 := Subsingleton.elim _ _
  refine congrArg (m (((0 : Dev Cert.KernelIdeal.nD).tc : Thread Cert.KernelIdeal.nD Cert.KernelIdeal.τ).loc Cert.KernelIdeal.main_arg0)) ?_
  funext a
  fin_cases a
  exact Subsingleton.elim (α := Fin 1) _ _

theorem row_zero (i : Cert.KernelIdeal.S1x1000000.Idx) : i = ix2 (0 : Fin 1) (i (1 : Fin 2) : Fin 1000000) := by
  funext a
  fin_cases a
  · exact Subsingleton.elim (α := Fin 1) _ _
  · rfl

theorem logit_congr {a a' b b' : Cert.KernelIdeal.S1000000x64.Idx → EReal} {d d' : Cert.KernelIdeal.S1000000.Idx → EReal} (n : Fin 1000000)
    (ha : a = a') (hb : b = b') (hd : d = d') : logit a b d n = logit a' b' d' n := by
  subst ha hb hd; rfl

/-- THE EQUALITY of the kernel's result with the reference's. -/
theorem algebraic : Cert.algebraic_KernelIdeal_ReferenceIdeal_pre_logits_below_infinity := fun m g m' g' hp ha => by
  obtain ⟨k, hk, hw⟩ := Cert.PreLogits.word_KernelIdeal_logits m hp
  have hx : ∀ (c : Dev Cert.KernelIdeal.nD) (i : Cert.KernelIdeal.S1.Idx),
      (m ((c.tc : Thread Cert.KernelIdeal.nD Cert.KernelIdeal.τ).loc Cert.KernelIdeal.main_arg0) : IVec Cert.KernelIdeal.S1 32) i = BitVec.ofNat 32 k :=
    fun c i => (arg0_eq m c i).trans hw
  have hf : ∀ c v, Cert.KernelIdeal.Hand.logits m c ⟨k, hk⟩ v ≠ ⊤ :=
    fun c v => Cert.PreLogits.lt_top_of_fn _ _ _ _ ⟨k, hk⟩ (hx c) (hp c).2 v
  refine ⟨fun c => fun i : Cert.KernelIdeal.S1x1000000.Idx => logSoftmax (Cert.KernelIdeal.Hand.logits m c ⟨k, hk⟩) (i (1 : Fin 2)).val, ?_, ?_⟩
  · refine (θ_run Cert.KernelIdeal.defs _ _).mono (fun r h c => ⟨?_, (h.1 c).2⟩) (Cert.KernelIdeal.Hand.run_value g ⟨k, hk⟩ hw hf)
    funext i
    exact (congrArg (r.2.mem ((c.tc : Thread Cert.KernelIdeal.nD Cert.KernelIdeal.τ).loc Cert.KernelIdeal.main_v1)) (row_zero i)).trans ((h.1 c).1 _)
  · refine (θ_run Cert.ReferenceIdeal.defs _ _).mono (fun r h c => ⟨?_, (h c).2⟩) (Cert.ReferenceIdeal.Value.run (F := Ideal) m' g')
    refine (h c).1.trans ((Cert.ReferenceIdeal.Read.val_main_v5_eq m' c).trans ?_)
    obtain ⟨e0, e1, e2, e3⟩ := ha c
    funext i
    refine (congrArg _ (row_zero i)).trans ?_
    refine (Cert.ReferenceIdeal.Hand.result_eq (n := ⟨k, hk⟩) (fun j => (congrFun e0 j).trans (hx c j)) _ _ _ (i (1 : Fin 2))).trans ?_
    exact congrArg (fun f => logSoftmax f (i (1 : Fin 2)).val) (logit_congr ⟨k, hk⟩ e1 e2 e3)

end Cert.Equal

end
-- ==== Proof.lean ====
/-
  The proof of `Cert.Claim`: the frames of the kernel, of its idealization and of the reference, and the equality of the
  idealized kernel's result with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_word_in_range
public import proofs.«01_k».proof.Proof.Gen.Pre_logits_below_infinity
public import proofs.«01_k».proof.Proof.PreWord
public import proofs.«01_k».proof.Proof.PreLogits
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_word_in_range.Gen.facts, Cert.Pre_logits_below_infinity.Gen.facts, Cert.PreWord.frame_Kernel, Cert.PreWord.frame_KernelIdeal,
  Cert.PreLogits.frame_KernelIdeal_logits, Cert.PreWord.frame_ReferenceIdeal, Cert.PreLogits.frame_ReferenceIdeal_logits, trivial,
  Cert.Equal.algebraic⟩

end Cert.Proof

end
